-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S32x128 Cert.KernelIdeal.S16x128
  ∧ IdealRules.bf16_pair.SelectZeroStatement Cert.KernelIdeal.S16x128
  ∧ IdealRules.bf16_pair.PackStatement Cert.KernelIdeal.S256x128
  ∧ IdealRules.bf16_pair.Statement Cert.KernelIdeal.S1x256x2x128 Cert.KernelIdeal.S1x256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x7168 : Shape := ⟨3, ![8, 1024, 7168]⟩
abbrev S7168x4608 : Shape := ⟨2, ![7168, 4608]⟩
abbrev S4608 : Shape := ⟨1, ![4608]⟩
abbrev S8192x7168 : Shape := ⟨2, ![8192, 7168]⟩
abbrev S1x4608 : Shape := ⟨2, ![1, 4608]⟩
abbrev S8x28x1024x128 : Shape := ⟨4, ![8, 28, 1024, 128]⟩
abbrev S8x1024x4x128 : Shape := ⟨4, ![8, 1024, 4, 128]⟩
abbrev S8x56x1024 : Shape := ⟨3, ![8, 56, 1024]⟩
abbrev S256x7168 : Shape := ⟨2, ![256, 7168]⟩
abbrev S1x28x256x128 : Shape := ⟨4, ![1, 28, 256, 128]⟩
abbrev S1x256x4x128 : Shape := ⟨4, ![1, 256, 4, 128]⟩
abbrev S1x56x256 : Shape := ⟨3, ![1, 56, 256]⟩
abbrev S16x128 : Shape := ⟨2, ![16, 128]⟩
abbrev S32x128 : Shape := ⟨2, ![32, 128]⟩
abbrev S32 : Shape := ⟨1, ![32]⟩
abbrev S32x1 : Shape := ⟨2, ![32, 1]⟩
abbrev S256x128 : Shape := ⟨2, ![256, 128]⟩
abbrev S128x256 : Shape := ⟨2, ![128, 256]⟩
abbrev S56x256 : Shape := ⟨2, ![56, 256]⟩
abbrev S7168x512 : Shape := ⟨2, ![7168, 512]⟩
abbrev S256x512 : Shape := ⟨2, ![256, 512]⟩
abbrev S1x512 : Shape := ⟨2, ![1, 512]⟩
abbrev S1x1x256x128 : Shape := ⟨4, ![1, 1, 256, 128]⟩
abbrev S256x4x128 : Shape := ⟨3, ![256, 4, 128]⟩
abbrev S256x2x128 : Shape := ⟨3, ![256, 2, 128]⟩
abbrev S256x1x128 : Shape := ⟨3, ![256, 1, 128]⟩
abbrev S1x256x2x128 : Shape := ⟨4, ![1, 256, 2, 128]⟩
abbrev S1x256x1x128 : Shape := ⟨4, ![1, 256, 1, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x7168, .bf16⟩
  | .hbm, ⟨1, _⟩ => ⟨S7168x4608, .fp8e4m3⟩
  | .hbm, ⟨2, _⟩ => ⟨S4608, .f32⟩
  | .hbm, ⟨3, _⟩ => ⟨S4608, .bf16⟩
  | .hbm, ⟨4, _⟩ => ⟨S8192x7168, .bf16⟩
  | .hbm, ⟨5, _⟩ => ⟨S1x4608, .f32⟩
  | .hbm, ⟨6, _⟩ => ⟨S1x4608, .bf16⟩
  | .hbm, ⟨7, _⟩ => ⟨S8x28x1024x128, .bf16⟩
  | .hbm, ⟨8, _⟩ => ⟨S8x1024x4x128, .bf16⟩
  | .hbm, ⟨9, _⟩ => ⟨S8x1024x4x128, .bf16⟩
  | .hbm, ⟨10, _⟩ => ⟨S8192x7168, .fp8e4m3⟩
  | .hbm, ⟨11, _⟩ => ⟨S8x56x1024, .f32⟩
  | .local _ .vmem, ⟨0, _⟩ => ⟨S256x7168, .bf16⟩
  | .local _ .vmem, ⟨1, _⟩ => ⟨S256x7168, .bf16⟩
  | .local _ .vmem, ⟨2, _⟩ => ⟨S7168x4608, .fp8e4m3⟩
  | .local _ .vmem, ⟨3, _⟩ => ⟨S1x4608, .f32⟩
  | .local _ .vmem, ⟨4, _⟩ => ⟨S1x4608, .bf16⟩
  | .local _ .vmem, ⟨5, _⟩ => ⟨S1x28x256x128, .bf16⟩
  | .local _ .vmem, ⟨6, _⟩ => ⟨S1x28x256x128, .bf16⟩
  | .local _ .vmem, ⟨7, _⟩ => ⟨S1x256x4x128, .bf16⟩
  | .local _ .vmem, ⟨8, _⟩ => ⟨S1x256x4x128, .bf16⟩
  | .local _ .vmem, ⟨9, _⟩ => ⟨S1x256x4x128, .bf16⟩
  | .local _ .vmem, ⟨10, _⟩ => ⟨S1x256x4x128, .bf16⟩
  | .local _ .vmem, ⟨11, _⟩ => ⟨S256x7168, .fp8e4m3⟩
  | .local _ .vmem, ⟨12, _⟩ => ⟨S256x7168, .fp8e4m3⟩
  | .local _ .vmem, ⟨13, _⟩ => ⟨S1x56x256, .f32⟩
  | .local _ .vmem, ⟨14, _⟩ => ⟨S1x56x256, .f32⟩
  | .local _ .vmem, ⟨15, _⟩ => ⟨S256x7168, .bf16⟩
  | _, _ => ⟨S8x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x28x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x56x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F]
-- ==== ReferenceIdeal.lean ====
abbrev S8x1024x7168 : Shape := ⟨3, ![8, 1024, 7168]⟩
abbrev S7168x4608 : Shape := ⟨2, ![7168, 4608]⟩
abbrev S4608 : Shape := ⟨1, ![4608]⟩
abbrev S8192x7168 : Shape := ⟨2, ![8192, 7168]⟩
abbrev S1x4608 : Shape := ⟨2, ![1, 4608]⟩
abbrev S8x28x1024x128 : Shape := ⟨4, ![8, 28, 1024, 128]⟩
abbrev S8x1024x4x128 : Shape := ⟨4, ![8, 1024, 4, 128]⟩
abbrev S8x56x1024 : Shape := ⟨3, ![8, 56, 1024]⟩
abbrev S8192x56x128 : Shape := ⟨3, ![8192, 56, 128]⟩
abbrev S8192x56 : Shape := ⟨2, ![8192, 56]⟩
abbrev S8192x56x1 : Shape := ⟨3, ![8192, 56, 1]⟩
abbrev S8x1024x56 : Shape := ⟨3, ![8, 1024, 56]⟩
abbrev S8192x4608 : Shape := ⟨2, ![8192, 4608]⟩
abbrev S8192x3584 : Shape := ⟨2, ![8192, 3584]⟩
abbrev S8x1024x28x128 : Shape := ⟨4, ![8, 1024, 28, 128]⟩
abbrev S8192x512 : Shape := ⟨2, ![8192, 512]⟩

abbrev nBuf : Space → Nat
  | .hbm => 12
  | .vmem => 9
  | .smem => 0
  | _ => 0

abbrev bufTy : (tb : Table) → Fin (tcTables nBuf tb) → BufTy
  | .hbm, ⟨0, _⟩ => ⟨S8x1024x7168, .bf16⟩
  | .hbm, ⟨1, _⟩ => ⟨S7168x4608, .fp8e4m3⟩
  | .hbm, ⟨2, _⟩ => ⟨S4608, .f32⟩
  | .hbm, ⟨3, _⟩ => ⟨S4608, .bf16⟩
  | .hbm, ⟨4, _⟩ => ⟨S8192x7168, .bf16⟩
  | .hbm, ⟨5, _⟩ => ⟨S1x4608, .f32⟩
  | .hbm, ⟨6, _⟩ => ⟨S1x4608, .bf16⟩
  | .hbm, ⟨7, _⟩ => ⟨S8x28x1024x128, .bf16⟩
  | .hbm, ⟨8, _⟩ => ⟨S8x1024x4x128, .bf16⟩
  | .hbm, ⟨9, _⟩ => ⟨S8x1024x4x128, .bf16⟩
  | .hbm, ⟨10, _⟩ => ⟨S8192x7168, .fp8e4m3⟩
  | .hbm, ⟨11, _⟩ => ⟨S8x56x1024, .f32⟩
  | .local _ .vmem, ⟨0, _⟩ => ⟨S8192x7168, .bf16⟩
  | .local _ .vmem, ⟨1, _⟩ => ⟨S7168x4608, .fp8e4m3⟩
  | .local _ .vmem, ⟨2, _⟩ => ⟨S1x4608, .f32⟩
  | .local _ .vmem, ⟨3, _⟩ => ⟨S1x4608, .bf16⟩
  | .local _ .vmem, ⟨4, _⟩ => ⟨S8x28x1024x128, .bf16⟩
  | .local _ .vmem, ⟨5, _⟩ => ⟨S8x1024x4x128, .bf16⟩
  | .local _ .vmem, ⟨6, _⟩ => ⟨S8x1024x4x128, .bf16⟩
  | .local _ .vmem, ⟨7, _⟩ => ⟨S8192x7168, .fp8e4m3⟩
  | .local _ .vmem, ⟨8, _⟩ => ⟨S8x56x1024, .f32⟩
  | _, _ => ⟨S8x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x28x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x4x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x56x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
/- The quantiser on extended reals, of one group of 128 values: its largest magnitude, the power-of-two scale, the code of a
   value. The reference states the scale with a flush of small ratios; the kernel states it with a threshold on the
   magnitude. The two are the same function of the magnitude, at every extended real. -/
module

public import Idealize.ShloMosaic.PureOps.Ideal
public import Idealize.ShloMosaic.Lib.Pointwise

@[expose] public section

noncomputable section

namespace Cert.Quant

open Idealize.ShloMosaic

/-- The largest magnitude of a group. -/
def rowMax (g : Fin 128 → EReal) : EReal := Finset.fold max ⊥ (fun k => max (g k) (-(g k))) Finset.univ

/-- One more than the floor of the base-2 logarithm of a magnitude over 448. -/
def rawExp (a : EReal) : EReal :=
  Ideal.liftRound Int.floor (Ideal.div (Ideal.log (Ideal.div a (Ideal.ofBits .f32 0x43E00000#32)))
    (Ideal.log (Ideal.ofBits .f32 0x40000000#32))) + 1

/-- The exponent: zero where the ratio is below the smallest normal number. -/
def expOf (a : EReal) : EReal :=
  if Ideal.div a (Ideal.ofBits .f32 0x43E00000#32) < Ideal.ofBits .f32 0x00800000#32 then 0 else rawExp a

/-- The scale of a group. -/
def scaleOf (g : Fin 128 → EReal) : EReal := Ideal.exp2 (expOf (rowMax g))

/-- The code of the value `v` of a group. -/
def codeOf (g : Fin 128 → EReal) (v : EReal) : EReal :=
  min (Ideal.ofBits .f32 0x43E00000#32) (max (Ideal.ofBits .f32 0xC3E00000#32) (v * Ideal.exp2 (0 - expOf (rowMax g))))

theorem top_bf16 : Ideal.ofBits .bf16 0x43E0#16 = ((448 : ℝ) : EReal) := by
  simp [Ideal.ofBits, Ideal.ieee]; rw [← EReal.coe_mul, EReal.coe_eq_coe_iff]; norm_num
theorem top_f32 : Ideal.ofBits .f32 0x43E00000#32 = ((448 : ℝ) : EReal) := by
  simp [Ideal.ofBits, Ideal.ieee]; rw [← EReal.coe_mul, EReal.coe_eq_coe_iff]; norm_num
theorem bottom_bf16 : Ideal.ofBits .bf16 0xC3E0#16 = ((-448 : ℝ) : EReal) := by
  simp [Ideal.ofBits, Ideal.ieee]; rw [← EReal.coe_mul, EReal.coe_eq_coe_iff]; norm_num
theorem bottom_f32 : Ideal.ofBits .f32 0xC3E00000#32 = ((-448 : ℝ) : EReal) := by
  simp [Ideal.ofBits, Ideal.ieee]; rw [← EReal.coe_mul, EReal.coe_eq_coe_iff]; norm_num
theorem tiny_f32 : Ideal.ofBits .f32 0x00800000#32 = (((2 : ℝ) ^ (-126 : ℤ) : ℝ) : EReal) := by
  simp [Ideal.ofBits, Ideal.ieee]; rw [← EReal.coe_mul, EReal.coe_eq_coe_iff]; norm_num
theorem least_bf16 : Ideal.ofBits .bf16 0x04E0#16 = ((448 * (2 : ℝ) ^ (-126 : ℤ) : ℝ) : EReal) := by
  simp [Ideal.ofBits, Ideal.ieee]; rw [← EReal.coe_mul, ← EReal.coe_mul]; exact congrArg _ (by norm_num)
theorem neg_inf_bf16 : Ideal.ofBits .bf16 0xFF80#16 = ⊥ := by simp [Ideal.ofBits, Ideal.ieee]
theorem neg_inf_f32 : Ideal.ofBits .f32 0xFF800000#32 = ⊥ := by simp [Ideal.ofBits, Ideal.ieee]

/-- The threshold on the magnitude is the flush of the ratio. -/
theorem threshold (a : EReal) : Ideal.ofBits .bf16 0x04E0#16 ≤ a ↔
    ¬ Ideal.div a (Ideal.ofBits .f32 0x43E00000#32) < Ideal.ofBits .f32 0x00800000#32 := by
  rw [least_bf16, top_f32, tiny_f32, Ideal.div_coe (by norm_num), not_lt]
  have h : (0 : ℝ) < 1 / 448 := by norm_num
  have ht : (0 : ℝ) < (2 : ℝ) ^ (-126 : ℤ) := by positivity
  generalize (2 : ℝ) ^ (-126 : ℤ) = t at ht
  induction a using EReal.rec with
  | bot => rw [EReal.bot_mul_coe_of_pos h]; simp only [le_bot_iff, EReal.coe_ne_bot]
  | top => rw [EReal.top_mul_coe_of_pos h]; simp only [le_top]
  | coe r =>
    rw [← EReal.coe_mul, EReal.coe_le_coe_iff, EReal.coe_le_coe_iff]
    constructor <;> intro h <;> linarith

/-- The kernel's scale, by threshold, is the scale. -/
theorem scale_eq (a : EReal) :
    (if Ideal.ofBits .bf16 0x04E0#16 ≤ a then Ideal.exp2 (rawExp a) else 1) = Ideal.exp2 (expOf a) := by
  by_cases h : Ideal.ofBits .bf16 0x04E0#16 ≤ a
  · rw [if_pos h, expOf, if_neg ((threshold a).mp h)]
  · rw [if_neg h, expOf, if_pos (by simpa using (threshold a).not.mp h)]
    rw [← EReal.coe_zero, Ideal.exp2_coe]
    simp

/-- The kernel's inverse, by threshold, is the power of two of the negated exponent. -/
theorem inv_eq (a : EReal) :
    (if Ideal.ofBits .bf16 0x04E0#16 ≤ a then Ideal.exp2 (0 - rawExp a) else 1) = Ideal.exp2 (0 - expOf a) := by
  by_cases h : Ideal.ofBits .bf16 0x04E0#16 ≤ a
  · rw [if_pos h, expOf, if_neg ((threshold a).mp h)]
  · rw [if_neg h, expOf, if_pos (by simpa using (threshold a).not.mp h), sub_zero]
    rw [← EReal.coe_zero, Ideal.exp2_coe]
    simp

end Cert.Quant

end
-- ==== Proof.Results.lean ====
/- What the five results hold, written once over the argument arrays: each row of the activations is cut into groups of 128,
   each group quantised to codes and one scale, and the product of codes times scale with the weights scaled and offset column
   by column. Both programs' results are shown equal to these functions. -/
module

public import proofs.«01_k».proof.Proof.Spec
public import Idealize.ShloMosaic.Lib.Pointwise

@[expose] public section

noncomputable section

namespace Cert.Quant

open Idealize.ShloMosaic Idealize.SL.Sem

/-- The activations' 8192 rows. -/
def rows (A : Vec Ideal ⟨3, ![8, 1024, 7168]⟩ .bf16) (m : Fin 8192) (n : Fin 7168) : EReal :=
  A (ix3 ⟨m.val / 1024, by have := m.isLt; omega⟩ ⟨m.val % 1024, Nat.mod_lt _ (by decide)⟩ n)

/-- Group `b` of row `m`. -/
def grp (X : Fin 8192 → Fin 7168 → EReal) (m : Fin 8192) (b : Fin 56) : Fin 128 → EReal :=
  fun k => X m ⟨b.val * 128 + k.val, by have := b.isLt; have := k.isLt; omega⟩

/-- The code at row `m`, column `n`. -/
def codeAt (X : Fin 8192 → Fin 7168 → EReal) (m : Fin 8192) (n : Fin 7168) : EReal :=
  codeOf (grp X m ⟨n.val / 128, by have := n.isLt; omega⟩) (X m n)

/-- The scale of group `b` of row `m`. -/
def scaleAt (X : Fin 8192 → Fin 7168 → EReal) (m : Fin 8192) (b : Fin 56) : EReal := scaleOf (grp X m b)

/-- Column `n` of row `m`'s projection. -/
def projAt (X : Fin 8192 → Fin 7168 → EReal) (W : Vec Ideal ⟨2, ![7168, 4608]⟩ .fp8e4m3) (s : Vec Ideal ⟨1, ![4608]⟩ .f32) (b : Vec Ideal ⟨1, ![4608]⟩ .bf16)
    (m : Fin 8192) (n : Fin 4608) : EReal :=
  (∑ k : Fin 7168, codeAt X m k * scaleAt X m ⟨k.val / 128, by have := k.isLt; omega⟩ * W (ix2 k n)) * s (ix1 n) + b (ix1 n)

variable (A : Vec Ideal ⟨3, ![8, 1024, 7168]⟩ .bf16) (W : Vec Ideal ⟨2, ![7168, 4608]⟩ .fp8e4m3) (s : Vec Ideal ⟨1, ![4608]⟩ .f32) (b : Vec Ideal ⟨1, ![4608]⟩ .bf16)

/-- The queries. -/
def qRes : Vec Ideal ⟨4, ![8, 28, 1024, 128]⟩ .bf16 := fun j =>
  projAt (rows A) W s b
    ⟨(j 0).val * 1024 + (j 2).val, by
      have h0 : (j 0).val < 8 := (j 0).isLt
      have h2 : (j 2).val < 1024 := (j 2).isLt
      omega⟩
    ⟨(j 1).val * 128 + (j 3).val, by
      have h1 : (j 1).val < 28 := (j 1).isLt
      have h3 : (j 3).val < 128 := (j 3).isLt
      omega⟩

/-- The keys (from column `o` = 3584) and the values (from 4096). -/
def fourRes (o : ℕ) (ho : o ≤ 4096) : Vec Ideal ⟨4, ![8, 1024, 4, 128]⟩ .bf16 := fun j =>
  projAt (rows A) W s b
    ⟨(j 0).val * 1024 + (j 1).val, by
      have h0 : (j 0).val < 8 := (j 0).isLt
      have h1 : (j 1).val < 1024 := (j 1).isLt
      omega⟩
    ⟨o + ((j 2).val * 128 + (j 3).val), by
      have h2 : (j 2).val < 4 := (j 2).isLt
      have h3 : (j 3).val < 128 := (j 3).isLt
      omega⟩

/-- The codes. -/
def codesRes : Vec Ideal ⟨2, ![8192, 7168]⟩ .fp8e4m3 := fun j => codeAt (rows A) (j 0) (j 1)

/-- The scales. -/
def scalesRes : Vec Ideal ⟨3, ![8, 56, 1024]⟩ .f32 := fun j =>
  scaleAt (rows A)
    ⟨(j 0).val * 1024 + (j 2).val, by
      have h0 : (j 0).val < 8 := (j 0).isLt
      have h2 : (j 2).val < 1024 := (j 2).isLt
      omega⟩ (j 1)

end Cert.Quant

end
-- ==== Proof.Block.lean ====
/- One 32×128 block of the kernel's quantiser, as functions of the block it loads: the operations the kernel applies, in
   its order, for any element semantics. The kernel runs the same operations on 448 blocks of a grid point's rows; the
   payloads it stores are these functions of the blocks it loads. -/
module

public import proofs.«01_k».proof.Proof.Gen.KernelIdeal

@[expose] public section

noncomputable section

namespace Cert.KernelIdeal.Block

open Cert.KernelIdeal Cert.KernelIdeal.Gen Idealize.ShloMosaic Idealize.SL.Sem

variable {F : FTy → Type} [FloatOps F]

/-- The block as loaded (a cast to its own shape). -/
def self (x : FVec F S32x128 .bf16) : FVec F S32x128 .bf16 := shapeCast S32x128 x shapeCasts_S32x128_S32x128

/-- Each row's largest magnitude, repeated along the row. -/
def amax (x : FVec F S32x128 .bf16) : FVec F S32x128 .bf16 :=
  broadcastTo S32x128 (shapeCast S32x1 (shapeCast S32x1 (multiReduction .maximumf [1] S32 (absf (self x)) 0xFF80#16
    reduces_S32x128_S32 (.inr rfl) rfl) shapeCasts_S32_S32x1) shapeCasts_S32x1_S32x1) broadcasts_S32x1_S32x128

/-- The exponent of the scale: one more than the floor of the base-2 logarithm of the magnitude over 448. -/
def expo (x : FVec F S32x128 .bf16) : FVec F S32x128 .f32 :=
  addf (floor (divf (log (divf (extf .f32 (amax x) bitsLt_bf16_f32) (broadcast S32x128 (Scalar.ofBits .f32 0x43E00000#32))))
    (log (broadcast S32x128 (Scalar.ofBits .f32 0x40000000#32))))) (broadcast S32x128 (Scalar.ofBits .f32 0x3F800000#32))

/-- Where the magnitude is at least the threshold under which the scale is one. -/
def normal (x : FVec F S32x128 .bf16) : IVec S32x128 1 :=
  cmpf .oge (amax x) (broadcast S32x128 (Scalar.ofBits .bf16 0x04E0#16))

/-- The scale. -/
def scale (x : FVec F S32x128 .bf16) : FVec F S32x128 .bf16 :=
  select (normal x) (truncf .bf16 (exp2 (expo x)) bitsLt_bf16_f32) (broadcast S32x128 (Scalar.ofBits .bf16 0x3F80#16))

/-- The scale's inverse. -/
def inv (x : FVec F S32x128 .bf16) : FVec F S32x128 .bf16 :=
  select (normal x) (truncf .bf16 (exp2 (subf (broadcast S32x128 (Scalar.ofBits .f32 0x00000000#32)) (expo x))) bitsLt_bf16_f32)
    (broadcast S32x128 (Scalar.ofBits .bf16 0x3F80#16))

/-- The codes. -/
def codes (x : FVec F S32x128 .bf16) : FVec F S32x128 .fp8e4m3 :=
  truncf .fp8e4m3 (minimumf (broadcast S32x128 (Scalar.ofBits .bf16 0x43E0#16))
    (maximumf (broadcast S32x128 (Scalar.ofBits .bf16 0xC3E0#16)) (mulf (self x) (inv x)))) bitsLt_fp8e4m3_bf16

/-- The codes times the scale, as stored (a cast to its own shape). -/
def xw (x : FVec F S32x128 .bf16) : FVec F S32x128 .bf16 :=
  shapeCast S32x128 (mulf (extf .bf16 (codes x) bitsLt_fp8e4m3_bf16) (scale x)) shapeCasts_S32x128_S32x128

end Cert.KernelIdeal.Block

end
-- ==== Proof.BlockRead.lean ====
/- The kernel's quantiser of one block, read at an index on extended reals: each row is a group, and the block's scale, codes
   and product at an index are the group's. -/
module

public import proofs.«01_k».proof.Proof.Block
public import proofs.«01_k».proof.Proof.Spec
public import Idealize.ShloMosaic.Lib.Pointwise

@[expose] public section

set_option maxRecDepth 16384

noncomputable section

namespace Cert.KernelIdeal.Block

open Cert.KernelIdeal Cert.KernelIdeal.Gen Idealize.ShloMosaic Idealize.SL.Sem
open Cert.Quant

variable (x : FVec Ideal S32x128 .bf16) (r : Fin 32) (l : Fin 128)

theorem amax_at : amax x (ix2 r l) = rowMax fun k => x (ix2 r k) := by
  pointwise [amax, self]
  rw [neg_inf_bf16]
  rfl

theorem scale_at : scale x (ix2 r l) = scaleOf fun k => x (ix2 r k) := by
  pointwise [scale, normal, expo]
  rw [amax_at]
  exact scale_eq _

theorem inv_at : inv x (ix2 r l) = Ideal.exp2 (0 - expOf (rowMax fun k => x (ix2 r k))) := by
  pointwise [inv, normal, expo]
  rw [amax_at]
  exact inv_eq _

theorem codes_at : codes x (ix2 r l) = codeOf (fun k => x (ix2 r k)) (x (ix2 r l)) := by
  pointwise [codes, self]
  rw [inv_at, top_bf16, bottom_bf16, ← top_f32, ← bottom_f32]
  rfl

theorem xw_at : xw x (ix2 r l) = codeOf (fun k => x (ix2 r k)) (x (ix2 r l)) * scaleOf fun k => x (ix2 r k) := by
  pointwise [xw]
  rw [codes_at, scale_at]

end Cert.KernelIdeal.Block

end
-- ==== Proof.Pieces.lean ====
/- What one grid point of the kernel leaves in the codes' block and in its scratch: 448 stores each, every one of them the
   quantiser of the 32×128 block loaded from the same place. One lemma serves every store; the stores are then blocks of ONE
   function of the point's 256 rows. -/
module

public import proofs.«01_k».proof.Proof.Gen.KernelIdeal.Frame
public import proofs.«01_k».proof.Proof.BlockRead
public import Idealize.ShloMosaic.Lib.Pipeline.ReadBack
public import Idealize.ShloMosaic.Lib.Pipeline.ValueKit.Tiles

@[expose] public section

set_option maxRecDepth 16384

noncomputable section

namespace Cert.KernelIdeal.Pieces

open Cert.KernelIdeal Cert.KernelIdeal.Gen Idealize.ShloMosaic Idealize.ShloMosaic.TcCoe Idealize.SL.Sem
open Cert.Quant

/-- Group `b` of row `r` of a point's rows. -/
def group (x : Vec Ideal S256x7168 .bf16) (r : Fin 256) (b : Fin 56) : Fin 128 → EReal :=
  fun k => x (ix2 r ⟨b.val * 128 + k.val, by have := b.isLt; have := k.isLt; omega⟩)

/-- The codes of a point's rows. -/
def codesOf (x : Vec Ideal S256x7168 .bf16) : Vec Ideal S256x7168 .fp8e4m3 :=
  fun y => codeOf (group x (y 0) ⟨(y 1).val / 128, by have h : (y 1).val < 7168 := (y 1).isLt; omega⟩) (x y)

/-- The codes times the scales of a point's rows. -/
def xwOf (x : Vec Ideal S256x7168 .bf16) : Vec Ideal S256x7168 .bf16 :=
  fun y => codeOf (group x (y 0) ⟨(y 1).val / 128, by have h : (y 1).val < 7168 := (y 1).isLt; omega⟩) (x y)
    * scaleOf (group x (y 0) ⟨(y 1).val / 128, by have h : (y 1).val < 7168 := (y 1).isLt; omega⟩)

variable (arg1 : Memref sig .tc .vmem S256x7168 .bf16) (harg1 : arg1.IsWhole) (x : Vec Ideal S256x7168 .bf16)

/-- The block loaded from rows `a …` and columns `b …`. -/
abbrev loaded (a b : ℕ) (inb : ∀ i, (![a, b] : Fin 2 → ℕ) i + S32x128.size i ≤ S256x7168.size i) : FVec Ideal S32x128 .bf16 :=
  View.readAt (Elt Ideal) arg1.view (Rect.unit (s := S256x7168) ![a, b] S32x128.size inb).toLoadRect (harg1.unread x)

theorem loaded_at (a b : ℕ) (inb) (r : Fin 32) (l : Fin 128) (i : S256x7168.Idx) (h0 : (i 0).val = a + r.val) (h1 : (i 1).val = b + l.val) :
    loaded arg1 harg1 x a b inb (ix2 r l) = x i := by
  unfold loaded
  rw [View.readAt_eq_ld, Memref.IsWhole.read_unread]
  refine View.ld_unit_apply_of x _ _ inb _ i fun k => ?_
  match k with
  | ⟨0, _⟩ => exact h0
  | ⟨1, _⟩ => exact h1

theorem codes_piece (a b : ℕ) (hb : b % 128 = 0) (inb) (z : S32x128.Idx) :
    Block.codes (loaded arg1 harg1 x a b inb) z = codesOf x ((Rect.unit (s := S256x7168) ![a, b] S32x128.size inb).emb z) := by
  obtain ⟨r, l, rfl⟩ : ∃ (r : Fin 32) (l : Fin 128), z = ix2 r l := ⟨z 0, z 1, by funext k; match k with | ⟨0, _⟩ => rfl | ⟨1, _⟩ => rfl⟩
  have hl := l.isLt
  set e := (Rect.unit (s := S256x7168) ![a, b] S32x128.size inb).emb (ix2 r l) with he
  have h0 : (e 0).val = a + r.val := by rw [he]; exact Rect.idx_unit_val (s := S256x7168) ![a, b] S32x128.size inb (ix2 r l) 0
  have h1 : (e 1).val = b + l.val := by rw [he]; exact Rect.idx_unit_val (s := S256x7168) ![a, b] S32x128.size inb (ix2 r l) 1
  rw [Block.codes_at, loaded_at arg1 harg1 x a b inb r l e h0 h1]
  refine congrArg (fun g => codeOf g (x e)) (funext fun k => ?_)
  refine loaded_at arg1 harg1 x a b inb r k _ h0 ?_
  have hk := k.isLt
  show (e 1).val / 128 * 128 + k.val = b + k.val
  omega

theorem xw_piece (a b : ℕ) (hb : b % 128 = 0) (inb) (z : S32x128.Idx) :
    Block.xw (loaded arg1 harg1 x a b inb) z = xwOf x ((Rect.unit (s := S256x7168) ![a, b] S32x128.size inb).emb z) := by
  obtain ⟨r, l, rfl⟩ : ∃ (r : Fin 32) (l : Fin 128), z = ix2 r l := ⟨z 0, z 1, by funext k; match k with | ⟨0, _⟩ => rfl | ⟨1, _⟩ => rfl⟩
  have hl := l.isLt
  set e := (Rect.unit (s := S256x7168) ![a, b] S32x128.size inb).emb (ix2 r l) with he
  have h0 : (e 0).val = a + r.val := by rw [he]; exact Rect.idx_unit_val (s := S256x7168) ![a, b] S32x128.size inb (ix2 r l) 0
  have h1 : (e 1).val = b + l.val := by rw [he]; exact Rect.idx_unit_val (s := S256x7168) ![a, b] S32x128.size inb (ix2 r l) 1
  rw [Block.xw_at, loaded_at arg1 harg1 x a b inb r l e h0 h1]
  refine congrArg (fun g => codeOf g (x e) * scaleOf g) (funext fun k => ?_)
  refine loaded_at arg1 harg1 x a b inb r k _ h0 ?_
  have hk := k.isLt
  show (e 1).val / 128 * 128 + k.val = b + k.val
  omega

/-- A store of a block's codes, over stores that are blocks of the codes. -/
theorem codes_cons {a b : ℕ} {inb : ∀ i, (![a, b] : Fin 2 → ℕ) i + S32x128.size i ≤ S256x7168.size i} {w : S32x128.Idx → Elt Ideal .fp8e4m3}
    {L : List (View.Piece (Elt Ideal) S256x7168 .fp8e4m3)} (hb : b % 128 = 0) (hw : w = Block.codes (loaded arg1 harg1 x a b inb))
    (hL : View.PiecesOf (codesOf x) L) :
    View.PiecesOf (codesOf x) (⟨Rect.unit ![a, b] S32x128.size inb, w⟩ :: L) :=
  ⟨fun z => (congrFun hw z).trans (codes_piece arg1 harg1 x a b hb inb z), hL⟩

/-- A store of a block's product, over stores that are blocks of the product. -/
theorem xw_cons {a b : ℕ} {inb : ∀ i, (![a, b] : Fin 2 → ℕ) i + S32x128.size i ≤ S256x7168.size i} {w : S32x128.Idx → Elt Ideal .bf16}
    {L : List (View.Piece (Elt Ideal) S256x7168 .bf16)} (hb : b % 128 = 0) (hw : w = Block.xw (loaded arg1 harg1 x a b inb))
    (hL : View.PiecesOf (xwOf x) L) :
    View.PiecesOf (xwOf x) (⟨Rect.unit ![a, b] S32x128.size inb, w⟩ :: L) :=
  ⟨fun z => (congrFun hw z).trans (xw_piece arg1 harg1 x a b hb inb z), hL⟩

end Cert.KernelIdeal.Pieces

end
-- ==== Proof.Lists.lean ====
/- The kernel's stores of one grid point, list by list: the codes' block and the scratch. -/
module

public import proofs.«01_k».proof.Proof.Pieces

@[expose] public section

set_option maxRecDepth 16384
set_option maxHeartbeats 0

noncomputable section

namespace Cert.KernelIdeal.Pieces

open Cert.KernelIdeal Cert.KernelIdeal.Gen Idealize.ShloMosaic Idealize.ShloMosaic.TcCoe Idealize.SL.Sem

variable (c : Dev nD) (i : grid0.Coords) (arg1 : Memref sig .tc .vmem S256x7168 .bf16) (harg1 : arg1.IsWhole) (arg2 : Memref sig .tc .vmem S7168x4608 .fp8e4m3) (harg2 : arg2.IsWhole) (arg3 : Memref sig .tc .vmem S1x4608 .f32) (harg3 : arg3.IsWhole) (arg4 : Memref sig .tc .vmem S1x4608 .bf16) (harg4 : arg4.IsWhole) (arg5 : Memref sig .tc .vmem S1x28x256x128 .bf16) (harg5 : arg5.IsWhole) (arg6 : Memref sig .tc .vmem S1x256x4x128 .bf16) (harg6 : arg6.IsWhole) (arg7 : Memref sig .tc .vmem S1x256x4x128 .bf16) (harg7 : arg7.IsWhole) (arg8 : Memref sig .tc .vmem S256x7168 .fp8e4m3) (harg8 : arg8.IsWhole) (arg9 : Memref sig .tc .vmem S1x56x256 .f32) (harg9 : arg9.IsWhole) (arg10 : Memref sig .tc .vmem S256x7168 .bf16) (harg10 : arg10.IsWhole)
variable (x0 : Vec Ideal S256x7168 .bf16) (x1 : Vec Ideal S7168x4608 .fp8e4m3) (x2 : Vec Ideal S1x4608 .f32) (x3 : Vec Ideal S1x4608 .bf16)

/-- The stores to the codes' block. -/
theorem codes_pieces : View.PiecesOf (codesOf x0)
    (kernelRun0_A (F := Ideal) c i arg1 harg1 arg2 harg2 arg3 harg3 arg4 harg4 arg5 harg5 arg6 harg6 arg7 harg7 arg8 harg8 arg9 harg9 arg10 harg10 x0 x1 x2 x3).2.2.2.1 := by
  repeat refine codes_cons arg1 harg1 x0 rfl rfl ?_
  exact trivial

/-- The stores to the scratch. -/
theorem xw_pieces : View.PiecesOf (xwOf x0) (kernelRun0_A.sl.HS0_448 (F := Ideal) c arg1 harg1 x0) := by
  repeat refine xw_cons arg1 harg1 x0 rfl rfl ?_
  exact trivial

/-- The scratch, loaded whole, holds the products. -/
theorem scratch_eq : kernelRun0_A.sl.v19743 (F := Ideal) c arg1 harg1 arg10 x0 = xwOf x0 := by
  unfold kernelRun0_A.sl.v19743
  rw [View.readCov_eq_canon']
  funext j
  refine (View.canon_apply_of_pieces (xwOf x0) _ (xw_pieces c arg1 harg1 x0).mem _
    (View.cover_of_tiledL (kernelRun0_A.sl.HS0_448 (F := Ideal) c arg1 harg1 x0) S32x128.size (by sl_kernel_rfl) _)).trans ?_
  refine congrArg (xwOf x0) (funext fun k => Fin.ext ?_)
  match k with
  | ⟨0, _⟩ => exact (Rect.idx_unit_val (s := S256x7168) ![0, 0] S256x7168.size inb_S256x7168_S256x7168_0_0 j 0).trans (Nat.zero_add _)
  | ⟨1, _⟩ => exact (Rect.idx_unit_val (s := S256x7168) ![0, 0] S256x7168.size inb_S256x7168_S256x7168_0_0 j 1).trans (Nat.zero_add _)

/-- The codes' block. -/
theorem codes_out : out0_A_7 (F := Ideal) c i arg1 harg1 arg2 harg2 arg3 harg3 arg4 harg4 arg5 harg5 arg6 harg6 arg7 harg7 arg8 harg8 arg9 harg9 arg10 harg10 x0 x1 x2 x3 = codesOf x0 := by
  unfold out0_A_7
  rw [View.read_writes_junk_eq_canon]
  exact funext fun y => View.canon_apply_of_pieces (codesOf x0) _ (codes_pieces c i arg1 harg1 arg2 harg2 arg3 harg3 arg4 harg4 arg5 harg5 arg6 harg6 arg7 harg7 arg8 harg8 arg9 harg9 arg10 harg10 x0 x1 x2 x3).mem y
    (cover0_A_7 c i arg1 harg1 arg2 harg2 arg3 harg3 arg4 harg4 arg5 harg5 arg6 harg6 arg7 harg7 arg8 harg8 arg9 harg9 arg10 harg10 x0 x1 x2 x3 y)

end Cert.KernelIdeal.Pieces

end
-- ==== Proof.Proj.lean ====
/- The kernel's projections of one grid point: a product over all 7168 columns with 512 columns of the weights, each result
   column scaled and offset, cut into heads of 128 columns. The functions are the kernel's operations in its order; the
   readings below say what each holds at an index. -/
module

public import proofs.«01_k».proof.Proof.Pieces
public import Idealize.ShloMosaic.Lib.Pointwise

@[expose] public section

set_option maxRecDepth 16384

noncomputable section

namespace Cert.KernelIdeal.Proj

open Cert.KernelIdeal Cert.KernelIdeal.Gen Idealize.ShloMosaic Idealize.ShloMosaic.TcCoe Idealize.SL.Sem

section
variable {F : FTy → Type} [FloatOps F]

/-- 512 columns of the projection. -/
def proj (xw : Vec F S256x7168 .bf16) (w : Vec F S7168x512 .fp8e4m3) (ws : Vec F S1x512 .f32) (b : Vec F S1x512 .bf16) : FVec F S256x512 .f32 :=
  addf (mulf (matmul dot_S256x7168_S7168x512_S256x512_1_0_0_1_n_n none xw w (constant S256x512 .f32 0x00000000#32))
      (broadcastTo S256x512 (shapeCast S1x512 ws shapeCasts_S1x512_S1x512) broadcasts_S1x512_S256x512))
    (broadcastTo S256x512 (extf .f32 (shapeCast S1x512 b shapeCasts_S1x512_S1x512) bitsLt_bf16_f32) broadcasts_S1x512_S256x512)

/-- One query head of them: the 128 columns from `d`. -/
def qHead (d : ℕ) (hd : S256x512.Slices ![0, d] S256x128) (y : FVec F S256x512 .f32) : Vec F S1x1x256x128 .bf16 :=
  shapeCast S1x1x256x128 (truncf .bf16 (extractStridedSlice S256x128 ![0, d] y hd) bitsLt_bf16_f32) shapeCasts_S256x128_S1x1x256x128

/-- Two key or value heads of them, the 128 columns from `d` and the 128 from `e`, interleaved row by row. -/
def twoHeads (d e : ℕ) (hd : S256x512.Slices ![0, d] S256x128) (he : S256x512.Slices ![0, e] S256x128) (y : FVec F S256x512 .f32) : Vec F S1x256x2x128 .bf16 :=
  interleaveRows S1x256x2x128
    (shapeCast S1x256x1x128 (shapeCast S256x1x128 (truncf .bf16 (extractStridedSlice S256x128 ![0, d] y hd)) shapeCasts_S256x128_S256x1x128) shapeCasts_S256x1x128_S1x256x1x128)
    (shapeCast S1x256x1x128 (shapeCast S256x1x128 (truncf .bf16 (extractStridedSlice S256x128 ![0, e] y he)) shapeCasts_S256x128_S256x1x128) shapeCasts_S256x1x128_S1x256x1x128)
    bitcasts_S1x256x2x128_w16_S1x256x1x128_w32

end

variable (xw : Vec Ideal S256x7168 .bf16) (w : Vec Ideal S7168x512 .fp8e4m3) (ws : Vec Ideal S1x512 .f32) (b : Vec Ideal S1x512 .bf16)

theorem proj_at (r : Fin 256) (n : Fin 512) : proj xw w ws b (ix2 r n)
    = (∑ k : Fin 7168, xw (ix2 r k) * w (ix2 k n)) * ws (ix2 0 n) + b (ix2 0 n) := by
  pointwise [proj]

theorem qHead_at (d : ℕ) (hd) (y : FVec Ideal S256x512 .f32) (r : Fin 256) (l : Fin 128) (n : Fin 512) (hn : n.val = d + l.val) :
    qHead d hd y (ix4 0 0 r l) = y (ix2 r n) := by
  pointwise [qHead]
  exact congrArg (fun i => y (ix2 r i)) (Fin.ext hn.symm)

theorem twoHeads_at (d e : ℕ) (hd he) (y : FVec Ideal S256x512 .f32) (r : Fin 256) (h : Fin 2) (l : Fin 128) (n : Fin 512)
    (hn : n.val = (if h.val = 0 then d else e) + l.val) :
    twoHeads d e hd he y (ix4 0 r h l) = y (ix2 r n) := by
  match h with
  | 0 =>
    pointwise [twoHeads]
    exact congrArg (fun i => y (ix2 r i)) (Fin.ext hn.symm)
  | 1 =>
    pointwise [twoHeads]
    exact congrArg (fun i => y (ix2 r i)) (Fin.ext hn.symm)

/-- Column `n` of the projection of row `r` of a point's rows. -/
def projOf (x0 : Vec Ideal S256x7168 .bf16) (x1 : Vec Ideal S7168x4608 .fp8e4m3) (x2 : Vec Ideal S1x4608 .f32) (x3 : Vec Ideal S1x4608 .bf16)
    (r : Fin 256) (n : Fin 4608) : EReal :=
  (∑ k : Fin 7168, Pieces.xwOf x0 (ix2 r k) * x1 (ix2 k n)) * x2 (ix2 0 n) + x3 (ix2 0 n)

variable (arg2 : Memref sig .tc .vmem S7168x4608 .fp8e4m3) (harg2 : arg2.IsWhole) (arg3 : Memref sig .tc .vmem S1x4608 .f32) (harg3 : arg3.IsWhole) (arg4 : Memref sig .tc .vmem S1x4608 .bf16) (harg4 : arg4.IsWhole)
variable (x0 : Vec Ideal S256x7168 .bf16) (x1 : Vec Ideal S7168x4608 .fp8e4m3) (x2 : Vec Ideal S1x4608 .f32) (x3 : Vec Ideal S1x4608 .bf16)

/-- The columns from `a` of the projection, as the kernel computes them: from the columns loaded from `a`. -/
abbrev cols (a : ℕ) (h2 : ∀ i, (![0, a] : Fin 2 → ℕ) i + S7168x512.size i ≤ S7168x4608.size i)
    (h3 h4 : ∀ i, (![0, a] : Fin 2 → ℕ) i + S1x512.size i ≤ S1x4608.size i) (xw : Vec Ideal S256x7168 .bf16) : FVec Ideal S256x512 .f32 :=
  proj xw (View.readAt (Elt Ideal) arg2.view (Rect.unit (s := S7168x4608) ![0, a] S7168x512.size h2).toLoadRect (harg2.unread x1))
    (View.readAt (Elt Ideal) arg3.view (Rect.unit (s := S1x4608) ![0, a] S1x512.size h3).toLoadRect (harg3.unread x2))
    (View.readAt (Elt Ideal) arg4.view (Rect.unit (s := S1x4608) ![0, a] S1x512.size h4).toLoadRect (harg4.unread x3))

theorem cols_at (a : ℕ) (h2 h3 h4) (r : Fin 256) (n : Fin 512) (N : Fin 4608) (hN : N.val = a + n.val) :
    cols arg2 harg2 arg3 harg3 arg4 harg4 x1 x2 x3 a h2 h3 h4 (Pieces.xwOf x0) (ix2 r n) = projOf x0 x1 x2 x3 r N := by
  have e1 : ∀ k : Fin 7168, View.readAt (Elt Ideal) arg2.view (Rect.unit (s := S7168x4608) ![0, a] S7168x512.size h2).toLoadRect (harg2.unread x1) (ix2 k n) = x1 (ix2 k N) := fun k => by
    rw [View.readAt_eq_ld, Memref.IsWhole.read_unread]
    exact View.ld_unit_apply_of x1 _ _ h2 _ _ fun i => match i with | ⟨0, _⟩ => (Nat.zero_add _).symm | ⟨1, _⟩ => hN
  have e2 : View.readAt (Elt Ideal) arg3.view (Rect.unit (s := S1x4608) ![0, a] S1x512.size h3).toLoadRect (harg3.unread x2) (ix2 0 n) = x2 (ix2 0 N) := by
    rw [View.readAt_eq_ld, Memref.IsWhole.read_unread]
    exact View.ld_unit_apply_of x2 _ _ h3 _ _ fun i => match i with | ⟨0, _⟩ => (Nat.zero_add _).symm | ⟨1, _⟩ => hN
  have e3 : View.readAt (Elt Ideal) arg4.view (Rect.unit (s := S1x4608) ![0, a] S1x512.size h4).toLoadRect (harg4.unread x3) (ix2 0 n) = x3 (ix2 0 N) := by
    rw [View.readAt_eq_ld, Memref.IsWhole.read_unread]
    exact View.ld_unit_apply_of x3 _ _ h4 _ _ fun i => match i with | ⟨0, _⟩ => (Nat.zero_add _).symm | ⟨1, _⟩ => hN
  rw [cols, proj_at, e2, e3]
  exact congrArg (fun s => s * x2 (ix2 0 N) + x3 (ix2 0 N)) (Finset.sum_congr rfl fun k _ => by rw [e1])

/-- The queries of a point. -/
def qOf : Vec Ideal S1x28x256x128 .bf16 := fun y =>
  projOf x0 x1 x2 x3 (y 2) ⟨(y 1).val * 128 + (y 3).val, by
    have h1 : (y 1).val < 28 := (y 1).isLt
    have h3 : (y 3).val < 128 := (y 3).isLt
    omega⟩

/-- The four heads of a point from column `o` on (`o` = 3584: keys; 4096: values). -/
def fourOf (o : ℕ) (ho : o ≤ 4096) : Vec Ideal S1x256x4x128 .bf16 := fun y =>
  projOf x0 x1 x2 x3 (y 1) ⟨o + ((y 2).val * 128 + (y 3).val), by
    have h1 : (y 2).val < 4 := (y 2).isLt
    have h3 : (y 3).val < 128 := (y 3).isLt
    omega⟩

/-- 128 columns from `d` lie among the 512. -/
theorem slices {d : ℕ} (hd : d ≤ 384) : S256x512.Slices ![0, d] S256x128 :=
  ⟨rfl, fun k => match k with
    | ⟨0, _⟩ => le_refl 256
    | ⟨1, _⟩ => show d + 128 ≤ 512 by omega⟩

/-- A store of a query head, over stores that are blocks of the queries. -/
theorem q_cons {h a d : ℕ} {hdd : d ≤ 384} {h2 h3 h4 xw} {inb : ∀ i, (![0, h, 0, 0] : Fin 4 → ℕ) i + S1x1x256x128.size i ≤ S1x28x256x128.size i}
    {w : S1x1x256x128.Idx → Elt Ideal .bf16} {L : List (View.Piece (Elt Ideal) S1x28x256x128 .bf16)}
    (hw : w = qHead d (slices hdd) (cols arg2 harg2 arg3 harg3 arg4 harg4 x1 x2 x3 a h2 h3 h4 xw)) (hcol : h * 128 = a + d) (hxw : xw = Pieces.xwOf x0)
    (hL : View.PiecesOf (qOf x0 x1 x2 x3) L) :
    View.PiecesOf (qOf x0 x1 x2 x3) (⟨Rect.unit ![0, h, 0, 0] S1x1x256x128.size inb, w⟩ :: L) := by
  refine ⟨fun z => (congrFun hw z).trans ?_, hL⟩
  subst hxw
  obtain ⟨r, l, rfl⟩ : ∃ (r : Fin 256) (l : Fin 128), z = ix4 0 0 r l := ⟨z 2, z 3, by
    funext k
    match k with
    | ⟨0, _⟩ => exact Fin.ext (Nat.lt_one_iff.mp (z 0).isLt)
    | ⟨1, _⟩ => exact Fin.ext (Nat.lt_one_iff.mp (z 1).isLt)
    | ⟨2, _⟩ => rfl
    | ⟨3, _⟩ => rfl⟩
  have hl := l.isLt
  rw [qHead_at d _ _ r l ⟨d + l.val, by omega⟩ rfl]
  set e := (Rect.unit (s := S1x28x256x128) ![0, h, 0, 0] S1x1x256x128.size inb).emb (ix4 0 0 r l) with he
  have k1 : (e 1).val = h + 0 := by rw [he]; exact Rect.idx_unit_val (s := S1x28x256x128) ![0, h, 0, 0] S1x1x256x128.size inb (ix4 0 0 r l) 1
  have k2 : (e 2).val = 0 + r.val := by rw [he]; exact Rect.idx_unit_val (s := S1x28x256x128) ![0, h, 0, 0] S1x1x256x128.size inb (ix4 0 0 r l) 2
  have k3 : (e 3).val = 0 + l.val := by rw [he]; exact Rect.idx_unit_val (s := S1x28x256x128) ![0, h, 0, 0] S1x1x256x128.size inb (ix4 0 0 r l) 3
  have hr : r = e 2 := Fin.ext (by omega)
  unfold qOf
  rw [← hr]
  exact cols_at arg2 harg2 arg3 harg3 arg4 harg4 x0 x1 x2 x3 a h2 h3 h4 r _ _ (by show (e 1).val * 128 + (e 3).val = a + (d + l.val); omega)

/-- A store of two key or value heads, over stores that are blocks of the four. -/
theorem four_cons {h a d d' o : ℕ} {ho : o ≤ 4096} {hd : d ≤ 384} {hd' : d' ≤ 384} {h2 h3 h4 xw} {inb : ∀ i, (![0, 0, h, 0] : Fin 4 → ℕ) i + S1x256x2x128.size i ≤ S1x256x4x128.size i}
    {w : S1x256x2x128.Idx → Elt Ideal .bf16} {L : List (View.Piece (Elt Ideal) S1x256x4x128 .bf16)}
    (hw : w = twoHeads d d' (slices hd) (slices hd') (cols arg2 harg2 arg3 harg3 arg4 harg4 x1 x2 x3 a h2 h3 h4 xw)) (hcol : o + h * 128 = a + d) (hdd : d' = d + 128)
    (hxw : xw = Pieces.xwOf x0) (hL : View.PiecesOf (fourOf x0 x1 x2 x3 o ho) L) :
    View.PiecesOf (fourOf x0 x1 x2 x3 o ho) (⟨Rect.unit ![0, 0, h, 0] S1x256x2x128.size inb, w⟩ :: L) := by
  refine ⟨fun z => (congrFun hw z).trans ?_, hL⟩
  subst hxw
  obtain ⟨r, g, l, rfl⟩ : ∃ (r : Fin 256) (g : Fin 2) (l : Fin 128), z = ix4 0 r g l := ⟨z 1, z 2, z 3, by
    funext k
    match k with
    | ⟨0, _⟩ => exact Fin.ext (Nat.lt_one_iff.mp (z 0).isLt)
    | ⟨1, _⟩ => rfl
    | ⟨2, _⟩ => rfl
    | ⟨3, _⟩ => rfl⟩
  have hl := l.isLt
  have hg := g.isLt
  rw [twoHeads_at d d' _ _ _ r g l ⟨d + (g.val * 128 + l.val), by omega⟩ (by show d + (g.val * 128 + l.val) = _; split <;> omega)]
  set e := (Rect.unit (s := S1x256x4x128) ![0, 0, h, 0] S1x256x2x128.size inb).emb (ix4 0 r g l) with he
  have k1 : (e 1).val = 0 + r.val := by rw [he]; exact Rect.idx_unit_val (s := S1x256x4x128) ![0, 0, h, 0] S1x256x2x128.size inb (ix4 0 r g l) 1
  have k2 : (e 2).val = h + g.val := by rw [he]; exact Rect.idx_unit_val (s := S1x256x4x128) ![0, 0, h, 0] S1x256x2x128.size inb (ix4 0 r g l) 2
  have k3 : (e 3).val = 0 + l.val := by rw [he]; exact Rect.idx_unit_val (s := S1x256x4x128) ![0, 0, h, 0] S1x256x2x128.size inb (ix4 0 r g l) 3
  have hr : r = e 1 := Fin.ext (by omega)
  unfold fourOf
  rw [← hr]
  exact cols_at arg2 harg2 arg3 harg3 arg4 harg4 x0 x1 x2 x3 a h2 h3 h4 r _ _ (by show o + ((e 2).val * 128 + (e 3).val) = a + (d + (g.val * 128 + l.val)); omega)

end Cert.KernelIdeal.Proj

end
-- ==== Proof.ProjLists.lean ====
/- The kernel's stores of one grid point, list by list: the blocks of the queries, the keys and the values. Each store is a
   head, or two heads, of one projection of the point's rows. -/
module

public import proofs.«01_k».proof.Proof.Lists
public import proofs.«01_k».proof.Proof.Proj

@[expose] public section

set_option maxRecDepth 16384
set_option maxHeartbeats 0

noncomputable section

namespace Cert.KernelIdeal.Proj

open Cert.KernelIdeal Cert.KernelIdeal.Gen Idealize.ShloMosaic Idealize.ShloMosaic.TcCoe Idealize.SL.Sem

variable (c : Dev nD) (i : grid0.Coords) (arg1 : Memref sig .tc .vmem S256x7168 .bf16) (harg1 : arg1.IsWhole) (arg2 : Memref sig .tc .vmem S7168x4608 .fp8e4m3) (harg2 : arg2.IsWhole) (arg3 : Memref sig .tc .vmem S1x4608 .f32) (harg3 : arg3.IsWhole) (arg4 : Memref sig .tc .vmem S1x4608 .bf16) (harg4 : arg4.IsWhole) (arg5 : Memref sig .tc .vmem S1x28x256x128 .bf16) (harg5 : arg5.IsWhole) (arg6 : Memref sig .tc .vmem S1x256x4x128 .bf16) (harg6 : arg6.IsWhole) (arg7 : Memref sig .tc .vmem S1x256x4x128 .bf16) (harg7 : arg7.IsWhole) (arg8 : Memref sig .tc .vmem S256x7168 .fp8e4m3) (harg8 : arg8.IsWhole) (arg9 : Memref sig .tc .vmem S1x56x256 .f32) (harg9 : arg9.IsWhole) (arg10 : Memref sig .tc .vmem S256x7168 .bf16) (harg10 : arg10.IsWhole)
variable (x0 : Vec Ideal S256x7168 .bf16) (x1 : Vec Ideal S7168x4608 .fp8e4m3) (x2 : Vec Ideal S1x4608 .f32) (x3 : Vec Ideal S1x4608 .bf16)

/-- The stores to the block of the queries. -/
theorem q_pieces : View.PiecesOf (qOf x0 x1 x2 x3)
    (kernelRun0_A (F := Ideal) c i arg1 harg1 arg2 harg2 arg3 harg3 arg4 harg4 arg5 harg5 arg6 harg6 arg7 harg7 arg8 harg8 arg9 harg9 arg10 harg10 x0 x1 x2 x3).1 := by
  repeat refine q_cons (hdd := by decide) arg2 harg2 arg3 harg3 arg4 harg4 x0 x1 x2 x3 rfl rfl (Pieces.scratch_eq c arg1 harg1 arg10 x0) ?_
  exact trivial

/-- The block of the queries. -/
theorem q_out : out0_A_4 (F := Ideal) c i arg1 harg1 arg2 harg2 arg3 harg3 arg4 harg4 arg5 harg5 arg6 harg6 arg7 harg7 arg8 harg8 arg9 harg9 arg10 harg10 x0 x1 x2 x3 = qOf x0 x1 x2 x3 := by
  unfold out0_A_4
  rw [View.read_writes_junk_eq_canon]
  exact funext fun y => View.canon_apply_of_pieces (qOf x0 x1 x2 x3) _ (q_pieces c i arg1 harg1 arg2 harg2 arg3 harg3 arg4 harg4 arg5 harg5 arg6 harg6 arg7 harg7 arg8 harg8 arg9 harg9 arg10 harg10 x0 x1 x2 x3).mem y
    (cover0_A_4 c i arg1 harg1 arg2 harg2 arg3 harg3 arg4 harg4 arg5 harg5 arg6 harg6 arg7 harg7 arg8 harg8 arg9 harg9 arg10 harg10 x0 x1 x2 x3 y)

/-- The stores to the block of the keys. -/
theorem k_pieces : View.PiecesOf (fourOf x0 x1 x2 x3 3584 (by decide))
    (kernelRun0_A (F := Ideal) c i arg1 harg1 arg2 harg2 arg3 harg3 arg4 harg4 arg5 harg5 arg6 harg6 arg7 harg7 arg8 harg8 arg9 harg9 arg10 harg10 x0 x1 x2 x3).2.1 := by
  repeat refine four_cons (hd := by decide) (hd' := by decide) arg2 harg2 arg3 harg3 arg4 harg4 x0 x1 x2 x3 rfl rfl rfl (Pieces.scratch_eq c arg1 harg1 arg10 x0) ?_
  exact trivial

/-- The block of the keys. -/
theorem k_out : out0_A_5 (F := Ideal) c i arg1 harg1 arg2 harg2 arg3 harg3 arg4 harg4 arg5 harg5 arg6 harg6 arg7 harg7 arg8 harg8 arg9 harg9 arg10 harg10 x0 x1 x2 x3 = fourOf x0 x1 x2 x3 3584 (by decide) := by
  unfold out0_A_5
  rw [View.read_writes_junk_eq_canon]
  exact funext fun y => View.canon_apply_of_pieces (fourOf x0 x1 x2 x3 3584 (by decide)) _ (k_pieces c i arg1 harg1 arg2 harg2 arg3 harg3 arg4 harg4 arg5 harg5 arg6 harg6 arg7 harg7 arg8 harg8 arg9 harg9 arg10 harg10 x0 x1 x2 x3).mem y
    (cover0_A_5 c i arg1 harg1 arg2 harg2 arg3 harg3 arg4 harg4 arg5 harg5 arg6 harg6 arg7 harg7 arg8 harg8 arg9 harg9 arg10 harg10 x0 x1 x2 x3 y)

/-- The stores to the block of the values. -/
theorem v_pieces : View.PiecesOf (fourOf x0 x1 x2 x3 4096 (by decide))
    (kernelRun0_A (F := Ideal) c i arg1 harg1 arg2 harg2 arg3 harg3 arg4 harg4 arg5 harg5 arg6 harg6 arg7 harg7 arg8 harg8 arg9 harg9 arg10 harg10 x0 x1 x2 x3).2.2.1 := by
  repeat refine four_cons (hd := by decide) (hd' := by decide) arg2 harg2 arg3 harg3 arg4 harg4 x0 x1 x2 x3 rfl rfl rfl (Pieces.scratch_eq c arg1 harg1 arg10 x0) ?_
  exact trivial

/-- The block of the values. -/
theorem v_out : out0_A_6 (F := Ideal) c i arg1 harg1 arg2 harg2 arg3 harg3 arg4 harg4 arg5 harg5 arg6 harg6 arg7 harg7 arg8 harg8 arg9 harg9 arg10 harg10 x0 x1 x2 x3 = fourOf x0 x1 x2 x3 4096 (by decide) := by
  unfold out0_A_6
  rw [View.read_writes_junk_eq_canon]
  exact funext fun y => View.canon_apply_of_pieces (fourOf x0 x1 x2 x3 4096 (by decide)) _ (v_pieces c i arg1 harg1 arg2 harg2 arg3 harg3 arg4 harg4 arg5 harg5 arg6 harg6 arg7 harg7 arg8 harg8 arg9 harg9 arg10 harg10 x0 x1 x2 x3).mem y
    (cover0_A_6 c i arg1 harg1 arg2 harg2 arg3 harg3 arg4 harg4 arg5 harg5 arg6 harg6 arg7 harg7 arg8 harg8 arg9 harg9 arg10 harg10 x0 x1 x2 x3 y)

end Cert.KernelIdeal.Proj

end
-- ==== Proof.Scales.lean ====
/- The kernel's scales of one grid point. For each 32 rows the kernel gathers the 56 groups' scales by selects: column `n` of a
   128-column word takes the scales of group `n`, one group at a time, the even and the odd rows apart. The eight results are
   stacked, transposed and cut to 56 rows. -/
module

public import proofs.«01_k».proof.Proof.Lists
public import Idealize.ShloMosaic.Lib.Pointwise

@[expose] public section

set_option maxRecDepth 16384
set_option maxHeartbeats 0

noncomputable section

namespace Cert.KernelIdeal.Scales

open Cert.KernelIdeal Cert.KernelIdeal.Gen Idealize.ShloMosaic Idealize.ShloMosaic.TcCoe Idealize.SL.Sem
open Cert.Quant Pieces

/-- The column numbers. -/
abbrev column : IVec S16x128 32 := iota .tc S16x128 32 [1] iota_S16x128_d1_w32

/-- Column `b` of row `j` holds the scale of group `b` of the `p`-th of the row pair `j` of the rows from `a`, for the first `n` groups. -/
def Gathered (x : Vec Ideal S256x7168 .bf16) (a : ℕ) (p : ℕ) (n : ℕ) (w : FVec Ideal S16x128 .bf16) : Prop :=
  ∀ (j : Fin 16) (b : Fin 128) (r : Fin 256) (g : Fin 56), r.val = a + (2 * j.val + p) → g.val = b.val → b.val < n → w (ix2 j b) = scaleOf (group x r g)

variable (arg1 : Memref sig .tc .vmem S256x7168 .bf16) (harg1 : arg1.IsWhole) (x : Vec Ideal S256x7168 .bf16)

theorem gathered_zero (a p : ℕ) (w : FVec Ideal S16x128 .bf16) : Gathered x a p 0 w := fun _ _ _ _ _ _ h => absurd h (Nat.not_lt_zero _)

theorem pick_at (n : ℕ) (hn : n < 56) (u w : FVec Ideal S16x128 .bf16) (j : Fin 16) (b : Fin 128) :
    select (cmpi .eq column (broadcast S16x128 (BitVec.ofNat 32 n))) u w (ix2 j b) = if b.val = n then u (ix2 j b) else w (ix2 j b) := by
  pointwise []
  have hb := b.isLt
  have e : (BitVec.ofNat 32 b.val = BitVec.ofNat 32 n) ↔ b.val = n :=
    ⟨fun h => by
      have := congrArg BitVec.toNat h
      simp only [BitVec.toNat_ofNat] at this
      omega, fun h => by rw [h]⟩
  by_cases h : b.val = n
  · rw [if_pos h, h]
    simp [Scalar.select, IntOp.cmpi]
  · rw [if_neg h]
    have hne : (BitVec.ofNat 32 b.val == BitVec.ofNat 32 n) = false := beq_false_of_ne (mt e.mp h)
    simp [Scalar.select, IntOp.cmpi, hne]

theorem even_at (y : FVec Ideal S32x128 .bf16) (j : Fin 16) (b : Fin 128) (r : Fin 32) (hr : r.val = 2 * j.val + 0) :
    rowsOfParity 0 S16x128 y bitcasts_S32x128_w16_S16x128_w32 (ix2 j b) = y (ix2 r b) := by
  pointwise []
  exact congrArg (fun r => y (ix2 r b)) (Fin.ext hr.symm)

theorem odd_at (y : FVec Ideal S32x128 .bf16) (j : Fin 16) (b : Fin 128) (r : Fin 32) (hr : r.val = 2 * j.val + 1) :
    rowsOfParity 1 S16x128 y bitcasts_S32x128_w16_S16x128_w32 (ix2 j b) = y (ix2 r b) := by
  pointwise []
  exact congrArg (fun r => y (ix2 r b)) (Fin.ext hr.symm)

/-- One more group gathered: column `n` takes the scales of the block loaded from columns `128 n …`. -/
theorem step (a p n B : ℕ) (hp : p < 2) (hB : B = 128 * n) (hn : n < 56) (inb) (u w : FVec Ideal S16x128 .bf16)
    (hu : ∀ (j : Fin 16) (b : Fin 128) (r : Fin 32), r.val = 2 * j.val + p → u (ix2 j b) = Block.scale (loaded arg1 harg1 x a B inb) (ix2 r b))
    (h : Gathered x a p n w) : Gathered x a p (n + 1) (select (cmpi .eq column (broadcast S16x128 (BitVec.ofNat 32 n))) u w) := by
  intro j b r g hr hg hb
  have hj := j.isLt
  rw [pick_at n hn]
  split
  · next e =>
    rw [hu j b ⟨2 * j.val + p, by omega⟩ rfl, Block.scale_at]
    refine congrArg scaleOf (funext fun k => ?_)
    exact loaded_at arg1 harg1 x a B inb _ k _ hr (by show g.val * 128 + k.val = B + k.val; omega)
  · next e => exact h j b r g hr hg (by omega)

theorem even_step {a n B : ℕ} {inb} {w w' : FVec Ideal S16x128 .bf16}
    (hw : w = select (cmpi .eq column (broadcast S16x128 (BitVec.ofNat 32 n)))
      (rowsOfParity 0 S16x128 (Block.scale (loaded arg1 harg1 x a B inb)) bitcasts_S32x128_w16_S16x128_w32) w')
    (hB : B = 128 * n) (hn : n < 56) (h : Gathered x a 0 n w') : Gathered x a 0 (n + 1) w :=
  hw ▸ step arg1 harg1 x a 0 n B (by decide) hB hn inb _ w' (fun j b r hr => even_at _ j b r hr) h

theorem odd_step {a n B : ℕ} {inb} {w w' : FVec Ideal S16x128 .bf16}
    (hw : w = select (cmpi .eq column (broadcast S16x128 (BitVec.ofNat 32 n)))
      (rowsOfParity 1 S16x128 (Block.scale (loaded arg1 harg1 x a B inb)) bitcasts_S32x128_w16_S16x128_w32) w')
    (hB : B = 128 * n) (hn : n < 56) (h : Gathered x a 1 n w') : Gathered x a 1 (n + 1) w :=
  hw ▸ step arg1 harg1 x a 1 n B (by decide) hB hn inb _ w' (fun j b r hr => odd_at _ j b r hr) h

/-- The scales of the 32 rows from `a`, in the first 56 columns. -/
def Rows (x : Vec Ideal S256x7168 .bf16) (a : ℕ) (w : FVec Ideal S32x128 .f32) : Prop :=
  ∀ (s : Fin 32) (b : Fin 128) (r : Fin 256) (g : Fin 56), r.val = a + s.val → g.val = b.val → w (ix2 s b) = scaleOf (group x r g)

theorem zip_at (lo hi : FVec Ideal S16x128 .bf16) (r : Fin 32) (b : Fin 128) :
    extf .f32 (interleaveRows S32x128 lo hi bitcasts_S32x128_w16_S16x128_w32) bitsLt_bf16_f32 (ix2 r b)
      = if r.val % 2 = 0 then lo (ix2 ⟨r.val / 2, by omega⟩ b) else hi (ix2 ⟨r.val / 2, by omega⟩ b) := by
  pointwise []

theorem rows_of {a : ℕ} {lo hi : FVec Ideal S16x128 .bf16} {w : FVec Ideal S32x128 .f32}
    (hw : w = extf .f32 (interleaveRows S32x128 lo hi bitcasts_S32x128_w16_S16x128_w32) bitsLt_bf16_f32)
    (h0 : Gathered x a 0 56 lo) (h1 : Gathered x a 1 56 hi) : Rows x a w := by
  intro s b r g hr hg
  have hgl := g.isLt
  rw [hw, zip_at]
  split
  · next e => exact h0 _ b r g (by show r.val = a + (2 * (s.val / 2) + 0); omega) hg (by omega)
  · next e => exact h1 _ b r g (by show r.val = a + (2 * (s.val / 2) + 1); omega) hg (by omega)

/-- The scales of a point's rows. -/
def scalesOf (x : Vec Ideal S256x7168 .bf16) : Vec Ideal S1x56x256 .f32 := fun y => scaleOf (group x (y 2) (y 1))

theorem stack_at {y0 y1 y2 y3 y4 y5 y6 y7 : FVec Ideal S32x128 .f32} (h0 : Rows x 0 y0) (h1 : Rows x 32 y1) (h2 : Rows x 64 y2) (h3 : Rows x 96 y3)
    (h4 : Rows x 128 y4) (h5 : Rows x 160 y5) (h6 : Rows x 192 y6) (h7 : Rows x 224 y7) (g : Fin 56) (r : Fin 256) :
    shapeCast S1x56x256 (extractStridedSlice S56x256 ![0, 0] (transpose S128x256 [1, 0]
      (concatenate S256x128 0 [⟨S32x128, y0⟩, ⟨S32x128, y1⟩, ⟨S32x128, y2⟩, ⟨S32x128, y3⟩, ⟨S32x128, y4⟩, ⟨S32x128, y5⟩, ⟨S32x128, y6⟩, ⟨S32x128, y7⟩]
        concatenates_S32x128_S32x128_S32x128_S32x128_S32x128_S32x128_S32x128_S32x128_S256x128_d0)
      transposes_S256x128_p1_0_S128x256) slices_S128x256_o0_0_S56x256) shapeCasts_S56x256_S1x56x256 (ix3 0 g r)
      = scaleOf (group x r g) := by
  pointwise []
  repeat' split
  · exact h0 _ _ r g (by simp only []; omega) rfl
  · exact h1 _ _ r g (by simp only []; omega) rfl
  · exact h2 _ _ r g (by simp only []; omega) rfl
  · exact h3 _ _ r g (by simp only []; omega) rfl
  · exact h4 _ _ r g (by simp only []; omega) rfl
  · exact h5 _ _ r g (by simp only []; omega) rfl
  · exact h6 _ _ r g (by simp only []; omega) rfl
  · exact h7 _ _ r g (by simp only []; omega) rfl

variable (c : Dev nD) (i : grid0.Coords) (arg1 : Memref sig .tc .vmem S256x7168 .bf16) (harg1 : arg1.IsWhole) (arg2 : Memref sig .tc .vmem S7168x4608 .fp8e4m3) (harg2 : arg2.IsWhole) (arg3 : Memref sig .tc .vmem S1x4608 .f32) (harg3 : arg3.IsWhole) (arg4 : Memref sig .tc .vmem S1x4608 .bf16) (harg4 : arg4.IsWhole) (arg5 : Memref sig .tc .vmem S1x28x256x128 .bf16) (harg5 : arg5.IsWhole) (arg6 : Memref sig .tc .vmem S1x256x4x128 .bf16) (harg6 : arg6.IsWhole) (arg7 : Memref sig .tc .vmem S1x256x4x128 .bf16) (harg7 : arg7.IsWhole) (arg8 : Memref sig .tc .vmem S256x7168 .fp8e4m3) (harg8 : arg8.IsWhole) (arg9 : Memref sig .tc .vmem S1x56x256 .f32) (harg9 : arg9.IsWhole) (arg10 : Memref sig .tc .vmem S256x7168 .bf16) (harg10 : arg10.IsWhole)
variable (x0 : Vec Ideal S256x7168 .bf16) (x1 : Vec Ideal S7168x4608 .fp8e4m3) (x2 : Vec Ideal S1x4608 .f32) (x3 : Vec Ideal S1x4608 .bf16)

/-- The stores to the scales' block: one, of all of it. -/
theorem scales_pieces : View.PiecesOf (scalesOf x0) (kernelRun0_A (F := Ideal) c i arg1 harg1 arg2 harg2 arg3 harg3 arg4 harg4 arg5 harg5 arg6 harg6 arg7 harg7 arg8 harg8 arg9 harg9 arg10 harg10 x0 x1 x2 x3).2.2.2.2.1 := by
  refine ⟨fun z => ?_, trivial⟩
  obtain ⟨g, r, rfl⟩ : ∃ (g : Fin 56) (r : Fin 256), z = ix3 0 g r := ⟨z 1, z 2, by
    funext k
    match k with
    | ⟨0, _⟩ => exact Fin.ext (Nat.lt_one_iff.mp (z 0).isLt)
    | ⟨1, _⟩ => rfl
    | ⟨2, _⟩ => rfl⟩
  refine (stack_at x0 ?_ ?_ ?_ ?_ ?_ ?_ ?_ ?_ g r).trans ?_
  rotate_right
  · set e := (Rect.unit (s := S1x56x256) ![0, 0, 0] S1x56x256.size inb_S1x56x256_S1x56x256_0_0_0).emb (ix3 0 g r) with he
    have k1 : (e 1).val = 0 + g.val := by rw [he]; exact Rect.idx_unit_val (s := S1x56x256) ![0, 0, 0] S1x56x256.size inb_S1x56x256_S1x56x256_0_0_0 (ix3 0 g r) 1
    have k2 : (e 2).val = 0 + r.val := by rw [he]; exact Rect.idx_unit_val (s := S1x56x256) ![0, 0, 0] S1x56x256.size inb_S1x56x256_S1x56x256_0_0_0 (ix3 0 g r) 2
    exact (congrArg₂ (fun r g => scaleOf (group x0 r g)) (Fin.ext (by omega : (e 2).val = r.val)) (Fin.ext (by omega : (e 1).val = g.val))).symm
  all_goals
    refine rows_of x0 rfl ?_ ?_
    · repeat refine even_step arg1 harg1 x0 rfl rfl (by decide) ?_
      exact gathered_zero x0 _ _ _
    · repeat refine odd_step arg1 harg1 x0 rfl rfl (by decide) ?_
      exact gathered_zero x0 _ _ _

/-- The scales' block. -/
theorem scales_out : out0_A_8 (F := Ideal) c i arg1 harg1 arg2 harg2 arg3 harg3 arg4 harg4 arg5 harg5 arg6 harg6 arg7 harg7 arg8 harg8 arg9 harg9 arg10 harg10 x0 x1 x2 x3 = scalesOf x0 := by
  unfold out0_A_8
  rw [View.read_writes_junk_eq_canon]
  exact funext fun y => View.canon_apply_of_pieces (scalesOf x0) _ (scales_pieces c i arg1 harg1 arg2 harg2 arg3 harg3 arg4 harg4 arg5 harg5 arg6 harg6 arg7 harg7 arg8 harg8 arg9 harg9 arg10 harg10 x0 x1 x2 x3).mem y
    (cover0_A_8 c i arg1 harg1 arg2 harg2 arg3 harg3 arg4 harg4 arg5 harg5 arg6 harg6 arg7 harg7 arg8 harg8 arg9 harg9 arg10 harg10 x0 x1 x2 x3 y)

end Cert.KernelIdeal.Scales

end
-- ==== Proof.KernelFinal.lean ====
/- The kernel's five result arrays after the run, as functions of its argument arrays. -/
module

public import proofs.«01_k».proof.Proof.Results
public import proofs.«01_k».proof.Proof.ProjLists
public import proofs.«01_k».proof.Proof.Scales
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.Quant

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0] ∧ win0_3.index t = ![0, 0]
    ∧ win0_4.index t = ![t.val / 4, 0, t.val % 4, 0] ∧ win0_5.index t = ![t.val / 4, t.val % 4, 0, 0] ∧ win0_6.index t = ![t.val / 4, t.val % 4, 0, 0]
    ∧ win0_7.index t = ![t.val, 0] ∧ win0_8.index t = ![t.val / 4, 0, t.val % 4] :=
  (by decide +kernel : ∀ t : Fin grid0.N, _)

theorem rows_cast (A : Vec Ideal S8x1024x7168 .bf16) (M : Fin 8192) (n : Fin 7168) :
    shapeCast S8192x7168 A shapeCasts_S8x1024x7168_S8192x7168 (ix2 M n) = rows A M n := by
  pointwise [rows]

theorem line_cast {e : EltTy} (A : Vec Ideal S4608 e) (n : Fin 4608) :
    shapeCast S1x4608 A shapeCasts_S4608_S1x4608 (ix2 0 n) = A (ix1 n) := by
  pointwise []

theorem v0_at (c : Dev nD) (M : Fin 8192) (n : Fin 7168) : V m c main_v0 (ix2 M n) = rows (m ((c : Thread nD τ).loc main_arg0)) M n := by
  have e : V m c main_v0 = shapeCast S8192x7168 (m ((c : Thread nD τ).loc main_arg0)) shapeCasts_S8x1024x7168_S8192x7168 := by
    entry_read
    rfl
  rw [e]
  exact rows_cast _ M n

theorem v1_at (c : Dev nD) (n : Fin 4608) : V m c main_v1 (ix2 0 n) = m ((c : Thread nD τ).loc main_arg2) (ix1 n) := by
  have e : V m c main_v1 = shapeCast S1x4608 (m ((c : Thread nD τ).loc main_arg2)) shapeCasts_S4608_S1x4608 := by
    entry_read
    rfl
  rw [e]
  exact line_cast _ n

theorem v2_at (c : Dev nD) (n : Fin 4608) : V m c main_v2 (ix2 0 n) = m ((c : Thread nD τ).loc main_arg3) (ix1 n) := by
  have e : V m c main_v2 = shapeCast S1x4608 (m ((c : Thread nD τ).loc main_arg3)) shapeCasts_S4608_S1x4608 := by
    entry_read
    rfl
  rw [e]
  exact line_cast _ n

theorem x_at (c : Dev nD) (t : Fin cfg0.N) (r : Fin 256) (n : Fin 7168) (M : Fin 8192) (hM : M.val = t.val * 256 + r.val) :
    iblk m c 0 t (ix2 r n) = rows (m ((c : Thread nD τ).loc main_arg0)) M n := by
  rw [← v0_at m c]
  blk_ext [iblk, idx t]

theorem w_at (c : Dev nD) (t : Fin cfg0.N) (k : Fin 7168) (n : Fin 4608) :
    iblk m c 1 t (ix2 k n) = m ((c : Thread nD τ).loc main_arg1) (ix2 k n) := by
  blk_ext [iblk, V, idx t]

theorem s_at (c : Dev nD) (t : Fin cfg0.N) (n : Fin 4608) : iblk m c 2 t (ix2 0 n) = m ((c : Thread nD τ).loc main_arg2) (ix1 n) := by
  rw [← v1_at m c]
  blk_ext [iblk, idx t]

theorem b_at (c : Dev nD) (t : Fin cfg0.N) (n : Fin 4608) : iblk m c 3 t (ix2 0 n) = m ((c : Thread nD τ).loc main_arg3) (ix1 n) := by
  rw [← v2_at m c]
  blk_ext [iblk, idx t]

theorem group_eq (c : Dev nD) (t : Fin cfg0.N) (r : Fin 256) (b : Fin 56) (M : Fin 8192) (hM : M.val = t.val * 256 + r.val) :
    Pieces.group (iblk m c 0 t) r b = grp (rows (m ((c : Thread nD τ).loc main_arg0))) M b :=
  funext fun k => x_at m c t r _ M hM

theorem codes_at (c : Dev nD) (t : Fin cfg0.N) (r : Fin 256) (n : Fin 7168) (M : Fin 8192) (hM : M.val = t.val * 256 + r.val) :
    Pieces.codesOf (iblk m c 0 t) (ix2 r n) = codeAt (rows (m ((c : Thread nD τ).loc main_arg0))) M n := by
  show codeOf (Pieces.group (iblk m c 0 t) r _) (iblk m c 0 t (ix2 r n)) = _
  rw [group_eq m c t r _ M hM, x_at m c t r n M hM]
  rfl

theorem xw_at (c : Dev nD) (t : Fin cfg0.N) (r : Fin 256) (n : Fin 7168) (M : Fin 8192) (hM : M.val = t.val * 256 + r.val) :
    Pieces.xwOf (iblk m c 0 t) (ix2 r n) = codeAt (rows (m ((c : Thread nD τ).loc main_arg0))) M n
      * scaleAt (rows (m ((c : Thread nD τ).loc main_arg0))) M ⟨n.val / 128, by have := n.isLt; omega⟩ := by
  show codeOf (Pieces.group (iblk m c 0 t) r _) (iblk m c 0 t (ix2 r n)) * scaleOf (Pieces.group (iblk m c 0 t) r _) = _
  rw [group_eq m c t r _ M hM, x_at m c t r n M hM]
  rfl

theorem proj_at (c : Dev nD) (t : Fin cfg0.N) (r : Fin 256) (n : Fin 4608) (M : Fin 8192) (hM : M.val = t.val * 256 + r.val) :
    Proj.projOf (iblk m c 0 t) (iblk m c 1 t) (iblk m c 2 t) (iblk m c 3 t) r n
      = projAt (rows (m ((c : Thread nD τ).loc main_arg0))) (m ((c : Thread nD τ).loc main_arg1)) (m ((c : Thread nD τ).loc main_arg2))
          (m ((c : Thread nD τ).loc main_arg3)) M n := by
  unfold Proj.projOf projAt
  rw [s_at, b_at]
  refine congrArg (fun z => z * _ + _) (Finset.sum_congr rfl fun k _ => ?_)
  rw [xw_at m c t r k M hM, w_at]

theorem codes_blk (c : Dev nD) (t : Fin cfg0.N) (y : S256x7168.Idx) (j : S8192x7168.Idx) (h0 : (j 0).val = t.val * 256 + (y 0).val) (h1 : (j 1).val = (y 1).val) :
    Pieces.codesOf (iblk m c 0 t) y = codesRes (m ((c : Thread nD τ).loc main_arg0)) j := by
  have hy : y = (ix2 (y 0 : Fin 256) (y 1 : Fin 7168) : S256x7168.Idx) := by funext k; match k with | ⟨0, _⟩ => rfl | ⟨1, _⟩ => rfl
  refine (congrArg (Pieces.codesOf (iblk m c 0 t)) hy).trans ((codes_at m c t (y 0) (y 1) (j 0) h0).trans ?_)
  exact congrArg (codeAt (rows (m ((c : Thread nD τ).loc main_arg0))) (j 0)) (Fin.ext h1.symm)

theorem scales_blk (c : Dev nD) (t : Fin cfg0.N) (y : S1x56x256.Idx) (j : S8x56x1024.Idx) (h0 : (j 0).val = t.val / 4) (h1 : (j 1).val = (y 1).val)
    (h2 : (j 2).val = t.val % 4 * 256 + (y 2).val) :
    Scales.scalesOf (iblk m c 0 t) y = scalesRes (m ((c : Thread nD τ).loc main_arg0)) j := by
  have hj : (y 1 : Fin 56) = j 1 := Fin.ext h1.symm
  show scaleOf (Pieces.group (iblk m c 0 t) (y 2) (y 1)) = scaleOf (grp _ _ (j 1))
  rw [← hj]
  exact congrArg scaleOf (group_eq m c t (y 2) (y 1) _ (by show (j 0).val * 1024 + (j 2).val = _; omega))

theorem q_blk (c : Dev nD) (t : Fin cfg0.N) (y : S1x28x256x128.Idx) (j : S8x28x1024x128.Idx) (h0 : (j 0).val = t.val / 4) (h1 : (j 1).val = (y 1).val)
    (h2 : (j 2).val = t.val % 4 * 256 + (y 2).val) (h3 : (j 3).val = (y 3).val) :
    Proj.qOf (iblk m c 0 t) (iblk m c 1 t) (iblk m c 2 t) (iblk m c 3 t) y = qRes (m ((c : Thread nD τ).loc main_arg0)) (m ((c : Thread nD τ).loc main_arg1)) (m ((c : Thread nD τ).loc main_arg2)) (m ((c : Thread nD τ).loc main_arg3)) j := by
  unfold Proj.qOf qRes
  rw [proj_at m c t (y 2) _ ⟨(j 0).val * 1024 + (j 2).val, _⟩ (by show (j 0).val * 1024 + (j 2).val = _; omega)]
  exact congrArg _ (Fin.ext (by show (y 1).val * 128 + (y 3).val = (j 1).val * 128 + (j 3).val; omega))

theorem four_blk (c : Dev nD) (t : Fin cfg0.N) (o : ℕ) (ho : o ≤ 4096) (y : S1x256x4x128.Idx) (j : S8x1024x4x128.Idx) (h0 : (j 0).val = t.val / 4)
    (h1 : (j 1).val = t.val % 4 * 256 + (y 1).val) (h2 : (j 2).val = (y 2).val) (h3 : (j 3).val = (y 3).val) :
    Proj.fourOf (iblk m c 0 t) (iblk m c 1 t) (iblk m c 2 t) (iblk m c 3 t) o ho y = fourRes (m ((c : Thread nD τ).loc main_arg0)) (m ((c : Thread nD τ).loc main_arg1)) (m ((c : Thread nD τ).loc main_arg2)) (m ((c : Thread nD τ).loc main_arg3)) o ho j := by
  unfold Proj.fourOf fourRes
  rw [proj_at m c t (y 1) _ ⟨(j 0).val * 1024 + (j 1).val, _⟩ (by show (j 0).val * 1024 + (j 1).val = _; omega)]
  exact congrArg _ (Fin.ext (by show o + ((y 2).val * 128 + (y 3).val) = o + ((j 2).val * 128 + (j 3).val); omega))

theorem codes_final (c : Dev nD) : (dats m 0 c).arrAt 7 cfg0.N = codesRes (m ((c : Thread nD τ).loc main_arg0)) := by
  refine (dats m 0 c).arrAt_eq_of_covers 7 _ (by decide +kernel) fun t _ y => ?_
  blk_simp
  rw [after0_7]
  unfold outsAt0
  rw [Pieces.codes_out]
  refine codes_blk m c t y _ ?_ ?_
  all_goals blk_simp [idx t]

theorem scales_final (c : Dev nD) : (dats m 0 c).arrAt 8 cfg0.N = scalesRes (m ((c : Thread nD τ).loc main_arg0)) := by
  refine (dats m 0 c).arrAt_eq_of_covers 8 _ (by decide +kernel) fun t _ y => ?_
  blk_simp
  rw [after0_8]
  unfold outsAt0
  rw [Scales.scales_out]
  refine scales_blk m c t y _ ?_ ?_ ?_
  all_goals blk_simp [idx t]

theorem q_final (c : Dev nD) : (dats m 0 c).arrAt 4 cfg0.N = qRes (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  rw [Proj.q_out]
  refine q_blk m c t y _ ?_ ?_ ?_ ?_
  all_goals blk_simp [idx t]

theorem k_final (c : Dev nD) : (dats m 0 c).arrAt 5 cfg0.N = fourRes (m ((c : Thread nD τ).loc main_arg0)) (m ((c : Thread nD τ).loc main_arg1)) (m ((c : Thread nD τ).loc main_arg2)) (m ((c : Thread nD τ).loc main_arg3)) 3584 (by decide) := by
  refine (dats m 0 c).arrAt_eq_of_covers 5 _ (by decide +kernel) fun t _ y => ?_
  blk_simp
  rw [after0_5]
  unfold outsAt0
  rw [Proj.k_out]
  refine four_blk m c t 3584 (by decide) y _ ?_ ?_ ?_ ?_
  all_goals blk_simp [idx t]

theorem v_final (c : Dev nD) : (dats m 0 c).arrAt 6 cfg0.N = fourRes (m ((c : Thread nD τ).loc main_arg0)) (m ((c : Thread nD τ).loc main_arg1)) (m ((c : Thread nD τ).loc main_arg2)) (m ((c : Thread nD τ).loc main_arg3)) 4096 (by decide) := by
  refine (dats m 0 c).arrAt_eq_of_covers 6 _ (by decide +kernel) fun t _ y => ?_
  blk_simp
  rw [after0_6]
  unfold outsAt0
  rw [Proj.v_out]
  refine four_blk m c t 4096 (by decide) y _ ?_ ?_ ?_ ?_
  all_goals blk_simp [idx t]

/-- The kernel's run, with its five results. -/
theorem run : θ_run defs (onTc (τ := τ) (main (F := Ideal))) ⟨m, fun _ => 0, ρ⟩ fun r => ∀ c : Dev nD,
      r.2.mem ((c : Thread nD τ).loc main_v3_0) = qRes (m ((c : Thread nD τ).loc main_arg0)) (m ((c : Thread nD τ).loc main_arg1)) (m ((c : Thread nD τ).loc main_arg2)) (m ((c : Thread nD τ).loc main_arg3))
      ∧ r.2.mem ((c : Thread nD τ).loc main_v3_1) = fourRes (m ((c : Thread nD τ).loc main_arg0)) (m ((c : Thread nD τ).loc main_arg1)) (m ((c : Thread nD τ).loc main_arg2)) (m ((c : Thread nD τ).loc main_arg3)) 3584 (by decide)
      ∧ r.2.mem ((c : Thread nD τ).loc main_v3_2) = fourRes (m ((c : Thread nD τ).loc main_arg0)) (m ((c : Thread nD τ).loc main_arg1)) (m ((c : Thread nD τ).loc main_arg2)) (m ((c : Thread nD τ).loc main_arg3)) 4096 (by decide)
      ∧ r.2.mem ((c : Thread nD τ).loc main_v3_3) = codesRes (m ((c : Thread nD τ).loc main_arg0))
      ∧ r.2.mem ((c : Thread nD τ).loc main_v3_4) = scalesRes (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (q_final m c), (h c).2.1.trans (k_final m c), (h c).2.2.1.trans (v_final m c),
      (h c).2.2.2.1.trans (codes_final m c), (h c).2.2.2.2.1.trans (scales_final m c), (h c).2.2.2.2.2⟩)
    (Value.run_blocks m ρ)

end Cert.KernelIdeal.Final

end
-- ==== Proof.RefRead.lean ====
/- The reference's stored values read at an index on extended reals: a group is 128 neighbouring columns of a row, and each
   result at an index is the group's scale, the value's code, or the projection of the row of products. -/
module

public import proofs.«01_k».proof.Proof.Gen.ReferenceIdeal.Skeleton
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.SL.Sem
open Cert.Quant

/-- Group `b` of row `m`. -/
def group (x : FVec Ideal S8192x7168 .bf16) (m : Fin 8192) (b : Fin 56) : Fin 128 → EReal :=
  fun k => x (ix2 m ⟨b.val * 128 + k.val, by have := b.isLt; have := k.isLt; omega⟩)

variable (x : FVec Ideal S8192x7168 .bf16)

theorem exp_at (m : Fin 8192) (b : Fin 56) : k0_pay6 (F := Ideal) x (ix2 m b) = expOf (rowMax (group x m b)) := by
  pointwise [k0_pay6, k0_pay5]
  rw [neg_inf_f32]
  rfl

theorem scale_at (i : Fin 8) (b : Fin 56) (s : Fin 1024) : k0_pay10 (F := Ideal) x (ix3 i b s)
    = scaleOf (group x ⟨i.val * 1024 + s.val, by have := i.isLt; have := s.isLt; omega⟩ b) := by
  pointwise [k0_pay10, k0_pay7]
  rw [exp_at]
  rfl

theorem codes_at (m : Fin 8192) (n : Fin 7168) : k0_pay9 (F := Ideal) x (ix2 m n)
    = codeOf (group x m ⟨n.val / 128, by have := n.isLt; omega⟩) (x (ix2 m n)) := by
  pointwise [k0_pay9, k0_pay8, k0_pay5]
  rw [exp_at]
  rfl

theorem xw_at (m : Fin 8192) (n : Fin 7168) : k0_pay11 (F := Ideal) x (ix2 m n)
    = codeOf (group x m ⟨n.val / 128, by have := n.isLt; omega⟩) (x (ix2 m n))
      * scaleOf (group x m ⟨n.val / 128, by have := n.isLt; omega⟩) := by
  pointwise [k0_pay11, k0_pay8, k0_pay5, k0_pay7]
  rw [exp_at]
  rfl

variable (xw : FVec Ideal S8192x7168 .bf16) (w : Vec Ideal S7168x4608 .fp8e4m3) (ws : Vec Ideal S1x4608 .f32) (b : Vec Ideal S1x4608 .bf16)

theorem proj_at (m : Fin 8192) (n : Fin 4608) : k0_pay1 (F := Ideal) xw w ws b (ix2 m n)
    = (∑ k : Fin 7168, xw (ix2 m k) * w (ix2 k n)) * ws (ix2 0 n) + b (ix2 0 n) := by
  pointwise [k0_pay1]

theorem q_at (i : Fin 8) (h : Fin 28) (s : Fin 1024) (l : Fin 128) : k0_pay2 (F := Ideal) xw w ws b (ix4 i h s l)
    = k0_pay1 (F := Ideal) xw w ws b (ix2 ⟨i.val * 1024 + s.val, by have := i.isLt; have := s.isLt; omega⟩
        ⟨h.val * 128 + l.val, by have := h.isLt; have := l.isLt; omega⟩) := by
  pointwise [k0_pay2]

theorem k_at (i : Fin 8) (s : Fin 1024) (h : Fin 4) (l : Fin 128) : k0_pay3 (F := Ideal) xw w ws b (ix4 i s h l)
    = k0_pay1 (F := Ideal) xw w ws b (ix2 ⟨i.val * 1024 + s.val, by have := i.isLt; have := s.isLt; omega⟩
        ⟨3584 + (h.val * 128 + l.val), by have := h.isLt; have := l.isLt; omega⟩) := by
  pointwise [k0_pay3]

theorem v_at (i : Fin 8) (s : Fin 1024) (h : Fin 4) (l : Fin 128) : k0_pay4 (F := Ideal) xw w ws b (ix4 i s h l)
    = k0_pay1 (F := Ideal) xw w ws b (ix2 ⟨i.val * 1024 + s.val, by have := i.isLt; have := s.isLt; omega⟩
        ⟨4096 + (h.val * 128 + l.val), by have := h.isLt; have := l.isLt; omega⟩) := by
  pointwise [k0_pay4]

end Cert.ReferenceIdeal.Read

end
-- ==== Proof.RefFinal.lean ====
/- The reference's five result arrays after the run, as functions of its argument arrays; the run with those results. -/
module

public import proofs.«01_k».proof.Proof.Results
public import proofs.«01_k».proof.Proof.RefRead
public import proofs.«01_k».proof.Proof.Gen.ReferenceIdeal.Frame
public import Idealize.ShloMosaic.Lib.Claim

@[expose] public section

set_option maxRecDepth 16384

noncomputable section

namespace Cert.ReferenceIdeal.Final

open Cert.ReferenceIdeal Cert.ReferenceIdeal.Gen Idealize.ShloMosaic Idealize.ShloMosaic.TcCoe Idealize.SL.Sem
open Idealize.ShloMosaic.Pipeline (Dat)
open Cert.Quant

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0] ∧ win0_3.index t = ![0, 0]
    ∧ win0_4.index t = ![0, 0, 0, 0] ∧ win0_5.index t = ![0, 0, 0, 0] ∧ win0_6.index t = ![0, 0, 0, 0]
    ∧ win0_7.index t = ![0, 0] ∧ win0_8.index t = ![0, 0, 0] :=
  (by decide +kernel : ∀ t : Fin grid0.N, _)

theorem rows_cast (A : Vec Ideal S8x1024x7168 .bf16) (M : Fin 8192) (n : Fin 7168) :
    shapeCast S8192x7168 A shapeCasts_S8x1024x7168_S8192x7168 (ix2 M n) = rows A M n := by
  pointwise [rows]

theorem line_cast {e : EltTy} (A : Vec Ideal S4608 e) (n : Fin 4608) :
    shapeCast S1x4608 A shapeCasts_S4608_S1x4608 (ix2 0 n) = A (ix1 n) := by
  pointwise []

theorem v0_at (c : Dev nD) (M : Fin 8192) (n : Fin 7168) : V m c main_v0 (ix2 M n) = rows (m ((c : Thread nD τ).loc main_arg0)) M n := by
  have e : V m c main_v0 = shapeCast S8192x7168 (m ((c : Thread nD τ).loc main_arg0)) shapeCasts_S8x1024x7168_S8192x7168 := by
    entry_read
    rfl
  rw [e]
  exact rows_cast _ M n

theorem v1_at (c : Dev nD) (n : Fin 4608) : V m c main_v1 (ix2 0 n) = m ((c : Thread nD τ).loc main_arg2) (ix1 n) := by
  have e : V m c main_v1 = shapeCast S1x4608 (m ((c : Thread nD τ).loc main_arg2)) shapeCasts_S4608_S1x4608 := by
    entry_read
    rfl
  rw [e]
  exact line_cast _ n

theorem v2_at (c : Dev nD) (n : Fin 4608) : V m c main_v2 (ix2 0 n) = m ((c : Thread nD τ).loc main_arg3) (ix1 n) := by
  have e : V m c main_v2 = shapeCast S1x4608 (m ((c : Thread nD τ).loc main_arg3)) shapeCasts_S4608_S1x4608 := by
    entry_read
    rfl
  rw [e]
  exact line_cast _ n

theorem x_at (c : Dev nD) (t : Fin cfg0.N) (M : Fin 8192) (n : Fin 7168) : iblk m c 0 t (ix2 M n) = rows (m ((c : Thread nD τ).loc main_arg0)) M n := by
  rw [← v0_at m c]
  blk_ext [iblk, idx t]

theorem w_at (c : Dev nD) (t : Fin cfg0.N) (k : Fin 7168) (n : Fin 4608) :
    iblk m c 1 t (ix2 k n) = m ((c : Thread nD τ).loc main_arg1) (ix2 k n) := by
  blk_ext [iblk, V, idx t]

theorem s_at (c : Dev nD) (t : Fin cfg0.N) (n : Fin 4608) : iblk m c 2 t (ix2 0 n) = m ((c : Thread nD τ).loc main_arg2) (ix1 n) := by
  rw [← v1_at m c]
  blk_ext [iblk, idx t]

theorem b_at (c : Dev nD) (t : Fin cfg0.N) (n : Fin 4608) : iblk m c 3 t (ix2 0 n) = m ((c : Thread nD τ).loc main_arg3) (ix1 n) := by
  rw [← v2_at m c]
  blk_ext [iblk, idx t]

theorem group_eq (c : Dev nD) (t : Fin cfg0.N) (M : Fin 8192) (b : Fin 56) : Read.group (iblk m c 0 t) M b = grp (rows (m ((c : Thread nD τ).loc main_arg0))) M b :=
  funext fun k => x_at m c t M _

theorem codes_at (c : Dev nD) (t : Fin cfg0.N) (M : Fin 8192) (n : Fin 7168) :
    k0_pay9 (F := Ideal) (iblk m c 0 t) (ix2 M n) = codeAt (rows (m ((c : Thread nD τ).loc main_arg0))) M n := by
  rw [Read.codes_at, group_eq, x_at]
  rfl

theorem scale_at (c : Dev nD) (t : Fin cfg0.N) (i : Fin 8) (b : Fin 56) (s : Fin 1024) :
    k0_pay10 (F := Ideal) (iblk m c 0 t) (ix3 i b s) = scaleAt (rows (m ((c : Thread nD τ).loc main_arg0))) ⟨i.val * 1024 + s.val, by have := i.isLt; have := s.isLt; omega⟩ b := by
  rw [Read.scale_at, group_eq]
  rfl

theorem proj_at (c : Dev nD) (t : Fin cfg0.N) (M : Fin 8192) (n : Fin 4608) :
    k0_pay1 (F := Ideal) (k0_pay11 (iblk m c 0 t)) (iblk m c 1 t) (iblk m c 2 t) (iblk m c 3 t) (ix2 M n) = projAt (rows (m ((c : Thread nD τ).loc main_arg0))) (m ((c : Thread nD τ).loc main_arg1)) (m ((c : Thread nD τ).loc main_arg2)) (m ((c : Thread nD τ).loc main_arg3)) M n := by
  unfold projAt
  rw [Read.proj_at, s_at, b_at]
  refine congrArg (fun z => z * _ + _) (Finset.sum_congr rfl fun k _ => ?_)
  rw [Read.xw_at, group_eq, x_at, w_at]
  rfl

theorem codes_blk (c : Dev nD) (t : Fin cfg0.N) (y j : S8192x7168.Idx) (h0 : (j 0).val = (y 0).val) (h1 : (j 1).val = (y 1).val) :
    k0_pay9 (F := Ideal) (iblk m c 0 t) y = codesRes (m ((c : Thread nD τ).loc main_arg0)) j := by
  have e : j = y := by
    funext k
    match k with
    | ⟨0, _⟩ => exact Fin.ext h0
    | ⟨1, _⟩ => exact Fin.ext h1
  subst e
  have hy : j = (ix2 (j 0 : Fin 8192) (j 1 : Fin 7168) : S8192x7168.Idx) := by funext k; match k with | ⟨0, _⟩ => rfl | ⟨1, _⟩ => rfl
  refine (congrArg (k0_pay9 (F := Ideal) (iblk m c 0 t)) hy).trans ?_
  exact codes_at m c t _ _

theorem scales_blk (c : Dev nD) (t : Fin cfg0.N) (y j : S8x56x1024.Idx) (h0 : (j 0).val = (y 0).val) (h1 : (j 1).val = (y 1).val) (h2 : (j 2).val = (y 2).val) :
    k0_pay10 (F := Ideal) (iblk m c 0 t) y = scalesRes (m ((c : Thread nD τ).loc main_arg0)) j := by
  have e : j = y := by
    funext k
    match k with
    | ⟨0, _⟩ => exact Fin.ext h0
    | ⟨1, _⟩ => exact Fin.ext h1
    | ⟨2, _⟩ => exact Fin.ext h2
  subst e
  have hy : j = (ix3 (j 0 : Fin 8) (j 1 : Fin 56) (j 2 : Fin 1024) : S8x56x1024.Idx) := by funext k; match k with | ⟨0, _⟩ => rfl | ⟨1, _⟩ => rfl | ⟨2, _⟩ => rfl
  refine (congrArg (k0_pay10 (F := Ideal) (iblk m c 0 t)) hy).trans ?_
  exact scale_at m c t _ _ _

theorem q_blk (c : Dev nD) (t : Fin cfg0.N) (y j : S8x28x1024x128.Idx) (h0 : (j 0).val = (y 0).val) (h1 : (j 1).val = (y 1).val) (h2 : (j 2).val = (y 2).val) (h3 : (j 3).val = (y 3).val) :
    k0_pay2 (F := Ideal) (k0_pay11 (iblk m c 0 t)) (iblk m c 1 t) (iblk m c 2 t) (iblk m c 3 t) y = qRes (m ((c : Thread nD τ).loc main_arg0)) (m ((c : Thread nD τ).loc main_arg1)) (m ((c : Thread nD τ).loc main_arg2)) (m ((c : Thread nD τ).loc main_arg3)) j := by
  have e : j = y := by
    funext k
    match k with
    | ⟨0, _⟩ => exact Fin.ext h0
    | ⟨1, _⟩ => exact Fin.ext h1
    | ⟨2, _⟩ => exact Fin.ext h2
    | ⟨3, _⟩ => exact Fin.ext h3
  subst e
  have hy : j = (ix4 (j 0 : Fin 8) (j 1 : Fin 28) (j 2 : Fin 1024) (j 3 : Fin 128) : S8x28x1024x128.Idx) := by funext k; match k with | ⟨0, _⟩ => rfl | ⟨1, _⟩ => rfl | ⟨2, _⟩ => rfl | ⟨3, _⟩ => rfl
  refine (congrArg (k0_pay2 (F := Ideal) (k0_pay11 (iblk m c 0 t)) (iblk m c 1 t) (iblk m c 2 t) (iblk m c 3 t)) hy).trans ?_
  exact (Read.q_at _ _ _ _ _ _ _ _).trans (proj_at m c t _ _)

theorem k_blk (c : Dev nD) (t : Fin cfg0.N) (y j : S8x1024x4x128.Idx) (h0 : (j 0).val = (y 0).val) (h1 : (j 1).val = (y 1).val) (h2 : (j 2).val = (y 2).val) (h3 : (j 3).val = (y 3).val) :
    k0_pay3 (F := Ideal) (k0_pay11 (iblk m c 0 t)) (iblk m c 1 t) (iblk m c 2 t) (iblk m c 3 t) y = fourRes (m ((c : Thread nD τ).loc main_arg0)) (m ((c : Thread nD τ).loc main_arg1)) (m ((c : Thread nD τ).loc main_arg2)) (m ((c : Thread nD τ).loc main_arg3)) 3584 (by decide) j := by
  have e : j = y := by
    funext k
    match k with
    | ⟨0, _⟩ => exact Fin.ext h0
    | ⟨1, _⟩ => exact Fin.ext h1
    | ⟨2, _⟩ => exact Fin.ext h2
    | ⟨3, _⟩ => exact Fin.ext h3
  subst e
  have hy : j = (ix4 (j 0 : Fin 8) (j 1 : Fin 1024) (j 2 : Fin 4) (j 3 : Fin 128) : S8x1024x4x128.Idx) := by funext k; match k with | ⟨0, _⟩ => rfl | ⟨1, _⟩ => rfl | ⟨2, _⟩ => rfl | ⟨3, _⟩ => rfl
  refine (congrArg (k0_pay3 (F := Ideal) (k0_pay11 (iblk m c 0 t)) (iblk m c 1 t) (iblk m c 2 t) (iblk m c 3 t)) hy).trans ?_
  exact (Read.k_at _ _ _ _ _ _ _ _).trans (proj_at m c t _ _)

theorem v_blk (c : Dev nD) (t : Fin cfg0.N) (y j : S8x1024x4x128.Idx) (h0 : (j 0).val = (y 0).val) (h1 : (j 1).val = (y 1).val) (h2 : (j 2).val = (y 2).val) (h3 : (j 3).val = (y 3).val) :
    k0_pay4 (F := Ideal) (k0_pay11 (iblk m c 0 t)) (iblk m c 1 t) (iblk m c 2 t) (iblk m c 3 t) y = fourRes (m ((c : Thread nD τ).loc main_arg0)) (m ((c : Thread nD τ).loc main_arg1)) (m ((c : Thread nD τ).loc main_arg2)) (m ((c : Thread nD τ).loc main_arg3)) 4096 (by decide) j := by
  have e : j = y := by
    funext k
    match k with
    | ⟨0, _⟩ => exact Fin.ext h0
    | ⟨1, _⟩ => exact Fin.ext h1
    | ⟨2, _⟩ => exact Fin.ext h2
    | ⟨3, _⟩ => exact Fin.ext h3
  subst e
  have hy : j = (ix4 (j 0 : Fin 8) (j 1 : Fin 1024) (j 2 : Fin 4) (j 3 : Fin 128) : S8x1024x4x128.Idx) := by funext k; match k with | ⟨0, _⟩ => rfl | ⟨1, _⟩ => rfl | ⟨2, _⟩ => rfl | ⟨3, _⟩ => rfl
  refine (congrArg (k0_pay4 (F := Ideal) (k0_pay11 (iblk m c 0 t)) (iblk m c 1 t) (iblk m c 2 t) (iblk m c 3 t)) hy).trans ?_
  exact (Read.v_at _ _ _ _ _ _ _ _).trans (proj_at m c t _ _)

theorem codes_final (c : Dev nD) : (dats m 0 c).arrAt 7 cfg0.N = codesRes (m ((c : Thread nD τ).loc main_arg0)) := by
  refine (dats m 0 c).arrAt_eq_of_covers 7 _ (by decide +kernel) fun t _ y => ?_
  blk_simp
  rw [after0_7]
  frame_out
  refine codes_blk m c t y _ ?_ ?_
  all_goals blk_simp [idx t]

theorem scales_final (c : Dev nD) : (dats m 0 c).arrAt 8 cfg0.N = scalesRes (m ((c : Thread nD τ).loc main_arg0)) := by
  refine (dats m 0 c).arrAt_eq_of_covers 8 _ (by decide +kernel) fun t _ y => ?_
  blk_simp
  rw [after0_8]
  frame_out
  refine scales_blk m c t y _ ?_ ?_ ?_
  all_goals blk_simp [idx t]

theorem q_final (c : Dev nD) : (dats m 0 c).arrAt 4 cfg0.N = qRes (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold k0_pay12
  frame_out
  refine q_blk m c t y _ ?_ ?_ ?_ ?_
  all_goals blk_simp [idx t]

theorem k_final (c : Dev nD) : (dats m 0 c).arrAt 5 cfg0.N = fourRes (m ((c : Thread nD τ).loc main_arg0)) (m ((c : Thread nD τ).loc main_arg1)) (m ((c : Thread nD τ).loc main_arg2)) (m ((c : Thread nD τ).loc main_arg3)) 3584 (by decide) := by
  refine (dats m 0 c).arrAt_eq_of_covers 5 _ (by decide +kernel) fun t _ y => ?_
  blk_simp
  rw [after0_5]
  frame_out
  unfold k0_pay12
  frame_out
  refine k_blk m c t y _ ?_ ?_ ?_ ?_
  all_goals blk_simp [idx t]

theorem v_final (c : Dev nD) : (dats m 0 c).arrAt 6 cfg0.N = fourRes (m ((c : Thread nD τ).loc main_arg0)) (m ((c : Thread nD τ).loc main_arg1)) (m ((c : Thread nD τ).loc main_arg2)) (m ((c : Thread nD τ).loc main_arg3)) 4096 (by decide) := by
  refine (dats m 0 c).arrAt_eq_of_covers 6 _ (by decide +kernel) fun t _ y => ?_
  blk_simp
  rw [after0_6]
  frame_out
  unfold k0_pay12
  frame_out
  refine v_blk m c t y _ ?_ ?_ ?_ ?_
  all_goals blk_simp [idx t]

/-- The reference's run, with its five results. -/
theorem run : θ_run defs (onTc (τ := τ) (main (F := Ideal))) ⟨m, fun _ => 0, ρ⟩ fun r => ∀ c : Dev nD,
      r.2.mem ((c : Thread nD τ).loc main_v3_0) = qRes (m ((c : Thread nD τ).loc main_arg0)) (m ((c : Thread nD τ).loc main_arg1)) (m ((c : Thread nD τ).loc main_arg2)) (m ((c : Thread nD τ).loc main_arg3))
      ∧ r.2.mem ((c : Thread nD τ).loc main_v3_1) = fourRes (m ((c : Thread nD τ).loc main_arg0)) (m ((c : Thread nD τ).loc main_arg1)) (m ((c : Thread nD τ).loc main_arg2)) (m ((c : Thread nD τ).loc main_arg3)) 3584 (by decide)
      ∧ r.2.mem ((c : Thread nD τ).loc main_v3_2) = fourRes (m ((c : Thread nD τ).loc main_arg0)) (m ((c : Thread nD τ).loc main_arg1)) (m ((c : Thread nD τ).loc main_arg2)) (m ((c : Thread nD τ).loc main_arg3)) 4096 (by decide)
      ∧ r.2.mem ((c : Thread nD τ).loc main_v3_3) = codesRes (m ((c : Thread nD τ).loc main_arg0))
      ∧ r.2.mem ((c : Thread nD τ).loc main_v3_4) = scalesRes (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (q_final m c), ((h c).1 5).trans (k_final m c), ((h c).1 6).trans (v_final m c),
      ((h c).1 7).trans (codes_final m c), ((h c).1 8).trans (scales_final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.ReferenceIdeal.Final

end
-- ==== Proof.lean ====
module

public import proofs.«01_k».proof.Defs
public import proofs.«01_k».proof.Proof.Gen.Kernel.Frame
public import proofs.«01_k».proof.Proof.KernelFinal
public import proofs.«01_k».proof.Proof.RefFinal
public import Idealize.ShloMosaic.Lib.Bf16Pair

@[expose] public section

noncomputable section

namespace Cert.Proof

open Idealize.ShloMosaic Idealize.ShloMosaic.TcCoe Idealize.SL.Sem Cert.Quant

theorem preserves : Cert.preserves_Kernel_KernelIdeal :=
  ⟨IdealRules.bf16_pair.statement Cert.KernelIdeal.S32x128 Cert.KernelIdeal.S16x128, IdealRules.bf16_pair.selectZeroStatement _, IdealRules.bf16_pair.packStatement _,
    IdealRules.bf16_pair.statement Cert.KernelIdeal.S1x256x2x128 Cert.KernelIdeal.S1x256x1x128⟩

theorem algebraic : Cert.algebraic_KernelIdeal_ReferenceIdeal (hKernelIdeal := Cert.KernelIdeal.Gen.facts) (hReferenceIdeal := Cert.ReferenceIdeal.Gen.facts) := by
  intro m g m' g' _ h
  refine ⟨fun c => qRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => fourRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) 3584 (by decide),
    fun c => fourRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) 4096 (by decide),
    fun c => codesRes (m ((c.tc : Thread Cert.KernelIdeal.nD Cert.KernelIdeal.τ).loc Cert.KernelIdeal.main_arg0)),
    fun c => scalesRes (m ((c.tc : Thread Cert.KernelIdeal.nD Cert.KernelIdeal.τ).loc Cert.KernelIdeal.main_arg0)),
    Cert.KernelIdeal.Final.run m g, ?_⟩
  refine (θ_run _ _ _).mono (fun r hr c => ?_) (Cert.ReferenceIdeal.Final.run m' g')
  obtain ⟨e0, e1, e2, e3⟩ := h c
  obtain ⟨q, k, v, cs, s, kept⟩ := hr c
  rw [e0, e1, e2, e3] at q k v
  rw [e0] at cs s
  exact ⟨q, k, v, cs, s, kept⟩

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => Cert.ReferenceIdeal.Gen.frame m ρ, preserves, algebraic⟩

end Cert.Proof

end
